-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v10)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v10) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts) (hPre_in_range : Cert.Pre_in_range.Facts),
    quiescent_Kernel (hKernel := hKernel) (hPre_in_range := hPre_in_range)
    ∧ quiescent_Reference (hReference := hReference)
    ∧ quiescent_Reference_pre_in_range (hReference := hReference) (hPre_in_range := hPre_in_range)
    ∧ bitexact_Kernel_Reference (hKernel := hKernel) (hReference := hReference) (hPre_in_range := hPre_in_range)
-- ==== Pre_in_range.lean ====
abbrev S5000x3 : Shape := ⟨2, ![5000, 3]⟩
abbrev S1x20000x4 : Shape := ⟨3, ![1, 20000, 4]⟩
abbrev S5000x1 : Shape := ⟨2, ![5000, 1]⟩
abbrev S5000 : Shape := ⟨1, ![5000]⟩
abbrev S_ : Shape := ⟨0, ![]⟩

class Facts : Prop where
  slices_S5000x3_S5000x1_0_2 : S5000x3.Slices ![0, 2] S5000x1
  shapeCasts_S5000x1_S5000 : S5000x1.ShapeCasts S5000
  bcast_S_S5000 : S_.BroadcastsInDim S5000 (![] : Fin 0 → Fin S5000.rank)
  reducesTo_S5000_S_d0 : S5000.ReducesTo [0] S_
  h_S_ : 0 < S_.numel

variable [Facts]

def fn {F : FTy → Type} [FloatOps F] (main_arg0 : IVec S5000x3 32) (main_arg1 : FVec F S1x20000x4 .f32) : IVec S_ 1 :=
  let main_v0 : IVec S5000x1 32 := (extractStridedSlice S5000x1 ![0, 2] · slices_S5000x3_S5000x1_0_2) main_arg0
  let main_v1 : IVec S5000 32 := shapeCast S5000 main_v0 shapeCasts_S5000x1_S5000
  let main_c : IVec S_ 32 := constantI S_ 32 0#32
  let main_v2 : IVec S5000 32 := broadcastInDim S5000 ![] bcast_S_S5000 main_c
  let main_v3 : IVec S5000 1 := cmpi .sge main_v1 main_v2
  let main_c_0 : IVec S_ 32 := constantI S_ 32 20000#32
  let main_v4 : IVec S5000 32 := broadcastInDim S5000 ![] bcast_S_S5000 main_c_0
  let main_v5 : IVec S5000 1 := cmpi .slt main_v1 main_v4
  let main_v6 : IVec S5000 1 := andi main_v3 main_v5
  let main_c_1 : IVec S_ 1 := constantI S_ 1 1#1
  let main_v7 : IVec S_ 1 := (fun x v => Host.reduce IntOp.andi x v reducesTo_S5000_S_d0 h_S_) main_v6 main_c_1
  main_v7
-- ==== Kernel.lean ====
abbrev S5000x3 : Shape := ⟨2, ![5000, 3]⟩
abbrev S1x20000x4 : Shape := ⟨3, ![1, 20000, 4]⟩
abbrev S3x5000 : Shape := ⟨2, ![3, 5000]⟩
abbrev S20000x4 : Shape := ⟨2, ![20000, 4]⟩
abbrev S4x20000 : Shape := ⟨2, ![4, 20000]⟩
abbrev S15000 : Shape := ⟨1, ![15000]⟩
abbrev S80000 : Shape := ⟨1, ![80000]⟩
abbrev S95000 : Shape := ⟨1, ![95000]⟩
abbrev S20000 : Shape := ⟨1, ![20000]⟩
abbrev S320 : Shape := ⟨1, ![320]⟩
abbrev S1280 : Shape := ⟨1, ![1280]⟩
abbrev S_ : Shape := ⟨0, ![]⟩
abbrev S16 : Shape := ⟨1, ![16]⟩
abbrev S128 : Shape := ⟨1, ![128]⟩
abbrev S64 : Shape := ⟨1, ![64]⟩
abbrev S200 : Shape := ⟨1, ![200]⟩
abbrev S4x5000 : Shape := ⟨2, ![4, 5000]⟩
abbrev S5000x4 : Shape := ⟨2, ![5000, 4]⟩

abbrev nBuf : Table → Nat
  | .hbm => 13
  | .local .scVector .vmem => 3
  | _ => 0

abbrev bufTy : (tb : Table) → Fin (nBuf tb) → BufTy
  | .hbm, ⟨0, _⟩ => ⟨S5000x3, .i32⟩
  | .hbm, ⟨1, _⟩ => ⟨S1x20000x4, .f32⟩
  | .hbm, ⟨2, _⟩ => ⟨S3x5000, .i32⟩
  | .hbm, ⟨3, _⟩ => ⟨S20000x4, .f32⟩
  | .hbm, ⟨4, _⟩ => ⟨S4x20000, .f32⟩
  | .hbm, ⟨5, _⟩ => ⟨S4x20000, .i32⟩
  | .hbm, ⟨6, _⟩ => ⟨S15000, .i32⟩
  | .hbm, ⟨7, _⟩ => ⟨S80000, .i32⟩
  | .hbm, ⟨8, _⟩ => ⟨S95000, .i32⟩
  | .hbm, ⟨9, _⟩ => ⟨S20000, .i32⟩
  | .hbm, ⟨10, _⟩ => ⟨S4x5000, .i32⟩
  | .hbm, ⟨11, _⟩ => ⟨S5000x4, .i32⟩
  | .hbm, ⟨12, _⟩ => ⟨S5000x4, .f32⟩
  | .local .scVector .vmem, ⟨0, _⟩ => ⟨S320, .i32⟩
  | .local .scVector .vmem, ⟨1, _⟩ => ⟨S1280, .i32⟩
  | .local .scVector .vmem, ⟨2, _⟩ => ⟨S1280, .i32⟩
  | _, _ => ⟨S5000x3, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v6_scv : Ref sig .scVector := ⟨.hbm, 8, rfl⟩
abbrev main_v7_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![1, 16], ![false, false]⟩

def k0_cond1 (i : grid0.Coords) : BitVec 1 :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c15_i32 : BitVec 32 := 15#32
  let v3 : BitVec 1 := Scalar.cmpi .slt v1 c15_i32
  let v4 : BitVec 32 := Scalar.extui v3
  let c0_i32 : BitVec 32 := 0#32
  let v5 : BitVec 1 := Scalar.cmpi .ne v4 c0_i32
  v5

def k0_off1 (i : grid0.Coords) : Fin 1 → Nat :=
  let c10000_i32 : BitVec 32 := 10000#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c320_i32 : BitVec 32 := 320#32
  let v2 : BitVec 32 := Scalar.muli v1 c320_i32
  let v9 : BitVec 32 := Scalar.addi c10000_i32 v2
  ![v9.toNat]
def k0_off2 (i : grid0.Coords) (c0_i32_133 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c320_i32 : BitVec 32 := 320#32
  let v2 : BitVec 32 := Scalar.muli v1 c320_i32
  let v315 : BitVec 32 := Scalar.addi c0_i32_133 v2
  ![v315.toNat]
def k0_cond2 (i : grid0.Coords) : BitVec 1 :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c15_i32_0 : BitVec 32 := 15#32
  let v6 : BitVec 1 := Scalar.cmpi .eq v1 c15_i32_0
  let v7 : BitVec 32 := Scalar.extui v6
  let c0_i32_1 : BitVec 32 := 0#32
  let v8 : BitVec 1 := Scalar.cmpi .ne v7 c0_i32_1
  v8

def k0_off3 (i : grid0.Coords) : Fin 1 → Nat :=
  let c10000_i32 : BitVec 32 := 10000#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c320_i32 : BitVec 32 := 320#32
  let v2 : BitVec 32 := Scalar.muli v1 c320_i32
  let v9 : BitVec 32 := Scalar.addi c10000_i32 v2
  ![v9.toNat]
def k0_off4 (i : grid0.Coords) (c0_i32_155 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c320_i32 : BitVec 32 := 320#32
  let v2 : BitVec 32 := Scalar.muli v1 c320_i32
  let v309 : BitVec 32 := Scalar.addi c0_i32_155 v2
  ![v309.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S5000x3 : Shape := ⟨2, ![5000, 3]⟩
abbrev S1x20000x4 : Shape := ⟨3, ![1, 20000, 4]⟩
abbrev S5000x1 : Shape := ⟨2, ![5000, 1]⟩
abbrev S5000 : Shape := ⟨1, ![5000]⟩
abbrev S20000x4 : Shape := ⟨2, ![20000, 4]⟩
abbrev S_ : Shape := ⟨0, ![]⟩
abbrev S1 : Shape := ⟨1, ![1]⟩
abbrev S1x1 : Shape := ⟨2, ![1, 1]⟩
abbrev S5000x4 : Shape := ⟨2, ![5000, 4]⟩

abbrev nBuf : Space → Nat
  | .hbm => 28
  | .vmem => 0
  | .smem => 0
  | _ => 0

abbrev bufTy : (tb : Table) → Fin (tcTables nBuf tb) → BufTy
  | .hbm, ⟨0, _⟩ => ⟨S5000x3, .i32⟩
  | .hbm, ⟨1, _⟩ => ⟨S1x20000x4, .f32⟩
  | .hbm, ⟨2, _⟩ => ⟨S5000x1, .i32⟩
  | .hbm, ⟨3, _⟩ => ⟨S5000, .i32⟩
  | .hbm, ⟨4, _⟩ => ⟨S20000x4, .f32⟩
  | .hbm, ⟨5, _⟩ => ⟨S_, .i32⟩
  | .hbm, ⟨6, _⟩ => ⟨S5000, .i32⟩
  | .hbm, ⟨7, _⟩ => ⟨S5000, .i1⟩
  | .hbm, ⟨8, _⟩ => ⟨S_, .i32⟩
  | .hbm, ⟨9, _⟩ => ⟨S5000, .i32⟩
  | .hbm, ⟨10, _⟩ => ⟨S5000, .i32⟩
  | .hbm, ⟨11, _⟩ => ⟨S5000, .i32⟩
  | .hbm, ⟨12, _⟩ => ⟨S5000x1, .i32⟩
  | .hbm, ⟨13, _⟩ => ⟨S1, .i32⟩
  | .hbm, ⟨14, _⟩ => ⟨S_, .i32⟩
  | .hbm, ⟨15, _⟩ => ⟨S5000x1, .i32⟩
  | .hbm, ⟨16, _⟩ => ⟨S5000x1, .i1⟩
  | .hbm, ⟨17, _⟩ => ⟨S1x1, .i32⟩
  | .hbm, ⟨18, _⟩ => ⟨S5000x1, .i32⟩
  | .hbm, ⟨19, _⟩ => ⟨S5000x1, .i1⟩
  | .hbm, ⟨20, _⟩ => ⟨S5000x1, .i1⟩
  | .hbm, ⟨21, _⟩ => ⟨S_, .i1⟩
  | .hbm, ⟨22, _⟩ => ⟨S5000, .i1⟩
  | .hbm, ⟨23, _⟩ => ⟨S5000x4, .f32⟩
  | .hbm, ⟨24, _⟩ => ⟨S5000x4, .i1⟩
  | .hbm, ⟨25, _⟩ => ⟨S_, .f32⟩
  | .hbm, ⟨26, _⟩ => ⟨S5000x4, .f32⟩
  | .hbm, ⟨27, _⟩ => ⟨S5000x4, .f32⟩
  | _, _ => ⟨S5000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Streams.lean ====
/-
  Indirect gathers that share one semaphore.  A gather moves one row of its source for every entry of its offset
  list, and every row credits the semaphore by the same amount.  Here each row counts as one transfer of a batch, so
  several gathers may be in flight on the semaphore at once; the waits take their units, and after the last wait
  every row's delivery is collected together.
-/
module

public import Idealize.ShloMosaic.Lib.Batch
public import Idealize.ShloMosaic.Lib.SparseCore.Stream

@[expose] public section

noncomputable section

namespace Cert.Streams

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA

section Runs

variable {M : Type} [URA M]

/-- A family over the numbers from `b` to `e` is its part below `m` and its part from `m`. -/
theorem run_split (Φ : ℕ → sProp M) {b m e : ℕ} (h₁ : b ≤ m) (h₂ : m ≤ e) :
    bigSep (Finset.Ico b e) Φ = iprop(bigSep (Finset.Ico b m) Φ ∗ bigSep (Finset.Ico m e) Φ) := by
  rw [← Finset.Ico_union_Ico_eq_Ico h₁ h₂]
  exact BI.bigSep_union (Finset.Ico_disjoint_Ico_consecutive b m e)

/-- The number `b + k`, as an embedding of the `o` numbers `k`. -/
def fromNat (b o : ℕ) : Fin o ↪ ℕ := ⟨fun k => b + k.val, by intro x y h; exact Fin.ext (Nat.add_left_cancel h)⟩

/-- The transfer `j + k` of a batch, as an embedding of the `o` numbers `k`. -/
def fromFin {n j o : ℕ} (h : j + o ≤ n) : Fin o ↪ Fin n :=
  ⟨fun k => ⟨j + k.val, by have := k.isLt; omega⟩, by intro x y h'; exact Fin.ext (Nat.add_left_cancel (Fin.ext_iff.mp h'))⟩

/-- A family over the numbers from `b` to `b + o`, counted from `b`. -/
theorem run_fin (Φ : ℕ → sProp M) (b o : ℕ) :
    bigSep (Finset.Ico b (b + o)) Φ = bigSep Finset.univ fun k : Fin o => Φ (b + k.val) := by
  have h : Finset.Ico b (b + o) = (Finset.univ : Finset (Fin o)).map (fromNat b o) := by
    ext x
    rw [Finset.mem_map, Finset.mem_Ico]
    constructor
    · rintro ⟨h₁, h₂⟩; exact ⟨⟨x - b, by omega⟩, Finset.mem_univ _, show b + (x - b) = x by omega⟩
    · rintro ⟨k, -, rfl⟩; have := k.isLt; exact ⟨show b ≤ b + k.val by omega, show b + k.val < b + o by omega⟩
  rw [h, BI.bigSep_map]; rfl

/-- Members that each entail their counterparts do so together. -/
theorem run_mono {Φ Ψ : ℕ → sProp M} {b e : ℕ} (h : ∀ n, b ≤ n → n < e → (Φ n ⊢ Ψ n)) :
    bigSep (Finset.Ico b e) Φ ⊢ bigSep (Finset.Ico b e) Ψ :=
  BI.bigSep_mono fun n hn => h n (Finset.mem_Ico.mp hn).1 (Finset.mem_Ico.mp hn).2

/-- The issue rights pending from `j` are the next `o` of them and those pending from `j + o`. -/
theorem pending_split {n : ℕ} (Ψ : Fin n → sProp M) {j o : ℕ} (h : j + o ≤ n) :
    bigSep (Transfers.pending (n := n) j) Ψ
      = iprop((bigSep Finset.univ fun k : Fin o => Ψ ⟨j + k.val, by have := k.isLt; omega⟩) ∗ bigSep (Transfers.pending (n := n) (j + o)) Ψ) := by
  have hs : Transfers.pending (n := n) j = (Finset.univ : Finset (Fin o)).map (fromFin h) ∪ Transfers.pending (n := n) (j + o) := by
    ext x
    rw [Finset.mem_union, Finset.mem_map]
    unfold Transfers.pending
    rw [Finset.mem_filter, Finset.mem_filter]
    constructor
    · rintro ⟨-, hx⟩
      by_cases hlt : x.val < j + o
      · exact .inl ⟨⟨x.val - j, by omega⟩, Finset.mem_univ _, Fin.ext (show j + (x.val - j) = x.val by omega)⟩
      · exact .inr ⟨Finset.mem_univ _, by omega⟩
    · rintro (⟨k, -, rfl⟩ | ⟨-, hx⟩)
      · exact ⟨Finset.mem_univ _, show j ≤ j + k.val by omega⟩
      · exact ⟨Finset.mem_univ _, by omega⟩
  have hd : Disjoint ((Finset.univ : Finset (Fin o)).map (fromFin h)) (Transfers.pending (n := n) (j + o)) := by
    rw [Finset.disjoint_left]
    intro x hx hx'
    obtain ⟨k, -, rfl⟩ := Finset.mem_map.mp hx
    have h' : j + o ≤ j + k.val := (Finset.mem_filter.mp hx').2
    have := k.isLt
    omega
  rw [hs, BI.bigSep_union hd, BI.bigSep_map]; rfl

end Runs

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Entry `k` of an offset list's view, as an index of the list's shape. -/
def entry {o : ℕ} (hn : si.numel = o) (k : Fin o) : si.Idx := si.rowMajor.symm (k.cast hn.symm)

/-- AN INDIRECT GATHER INTO A BATCH.  The tile holds, for every entry of the offset list, the row the entry writes, the
    entry itself and a share of the source; and it holds the batch with its first `j` rows issued.  The words of the
    list are in range.  It issues the gather and continues with the `o` rows of the gather issued too, row `k` of the
    gather delivering the batch's `j + k`-th delivery. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {qk : Fin (s.size hg.axis') → PosShare TreeShare}
    {fs : Buf (Elt F) (src.view.loc c)} {fd : Buf (Elt F) (dst.view.loc c)} {fo : Buf (Elt F) (offs.view.loc c)}
    {n : ℕ} {D : Fin n → sProp 𝕄} {j u : ℕ} (ι : Ix) (N : ℕ)
    (hrow : ∀ t, (dst.slice (s.rowRect hg.axis' t) (s.stride_rowRect hg.axis' t)).view.dmaCredit = N)
    (hj : j + s.size hg.axis' ≤ n) (hu : u ≤ j * N)
    (hin : ∀ x, (offs.view.read (Elt F) fo x).toNat < s₀.size hg.axis)
    (hD : ∀ t : Fin (s.size hg.axis'),
      iprop(((dst.view.loc c ↦[(dst.view.slice (s.rowRect hg.axis' t)).set]{fullShare}
              ((dst.view.slice (s.rowRect hg.axis' t)).write (Elt F) fd
                (fun i => src.view.read (Elt F) fs (hg.rowIdx (SparseCore.rows (offs.view.read (Elt F) fo) hn hin t) i)) Finset.univ))
          ∗ (offs.view.loc c ↦[{offs.view.emb (entry hn t)}]{qo} fo)) ∗ (src.view.loc c ↦[src.view.set]{qk t} fs))
        ⊢ D ⟨j + t.val, by have := t.isLt; omega⟩) :
    iprop((bigSep Finset.univ fun t : Fin (s.size hg.axis') =>
            iprop(((dst.view.loc c ↦[(dst.view.slice (s.rowRect hg.axis' t)).set]{fullShare} fd)
              ∗ (offs.view.loc c ↦[{offs.view.emb (entry hn t)}]{qo} fo)) ∗ (src.view.loc c ↦[src.view.set]{qk t} fs)))
        ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  rw [SparseCore.enqueueIndirectGather_bind]
  let S : Stream nD τ sig (Elt F) :=
    Stream.issued c offs.view hn sem (fun j w => (SparseCore.rowOf (s₀.size hg.axis) w).map (SparseCore.gatherRow c src dst hg sem hsrc he hsp hr j)) 0
  let r : Fin (s.size hg.axis') → Fin (s₀.size hg.axis) := SparseCore.rows (offs.view.read (Elt F) fo) hn hin
  let rd : Fin (s.size hg.axis') → RowDma τ sig (Elt F) c.2 sem := fun t => SparseCore.gatherRow c src dst hg sem hsrc he hsp hr t (r t)
  have hA : S.RowsAgree := by
    intro t x x' ρ ρ' h h'
    obtain ⟨_, _, rfl⟩ := Option.map_eq_some_iff.mp h
    obtain ⟨_, _, rfl⟩ := Option.map_eq_some_iff.mp h'
    rfl
  have hrd : ∀ t, S.row t (S.word fo t) = some (rd t) := fun t => by
    change (SparseCore.rowOf (s₀.size hg.axis) (offs.view.read (Elt F) fo (S.entry t))).map _ = _
    rw [SparseCore.rowOf_of_lt (hin _)]; rfl
  have hsum : ∑ t, (rd t).dst.view.dmaCredit = s.size hg.axis' * N := by
    rw [Finset.sum_congr rfl fun t _ => hrow t, Finset.sum_const, Finset.card_univ, Fintype.card_fin, smul_eq_mul]
  unfold Transfers.Batch
  iintro ⟨Hrows, ⟨%γ, %γ₀, %κ, #Hinv, HI, H0, Hcred⟩⟩ Hk
  ihave HI' := (Entails.of_eq (pending_split (fun t => count EC (γ t) 0) hj)) $$ HI
  icases HI' with ⟨Ht, HI⟩
  iapply (wp_enqueueIndirectDma 𝒱 c bd Set.univ (qo := qo) (fo := fo) (rd := rd) ι (s.size hg.axis' * N) hA hrd hsum) $$ [Hrows Ht]
  · have hone : ∀ t : Fin (s.size hg.axis'), iprop(inv κ (Transfers.batchBody EC (c, SemLoc.dma sem) N D γ γ₀)
          ∗ ((((dst.view.loc c ↦[(dst.view.slice (s.rowRect hg.axis' t)).set]{fullShare} fd)
              ∗ (offs.view.loc c ↦[{offs.view.emb (entry hn t)}]{qo} fo)) ∗ (src.view.loc c ↦[src.view.set]{qk t} fs))
            ∗ count EC (γ ⟨j + t.val, by have := t.isLt; omega⟩) 0))
        ⊢ iprop(S.heldEntry qo fo t ∗ (S.heldEntry qo fo t -∗ rowRes c (rd t))) := fun t => by
      iintro ⟨#Hinv, ⟨⟨Hr, He⟩, Hs⟩, Hγ⟩
      isplitl [He]; · iexact He
      iintro He
      unfold rowRes
      iexists qk t, fs, iprop((dst.view.loc c ↦[(dst.view.slice (s.rowRect hg.axis' t)).set]{fullShare}
        ((dst.view.slice (s.rowRect hg.axis' t)).write (Elt F) fd (fun i => src.view.read (Elt F) fs (hg.rowIdx (r t) i)) Finset.univ)) ∗ S.heldEntry qo fo t)
      isplitl [Hs]; · iexact Hs
      isplitl [Hr He]
      · iapply writeUpdate_frame
        isplitl [Hr]
        · iapply (pointsTo_writeUpdate c (v := dst.view.slice (s.rowRect hg.axis' t)) subset_rfl) $$ Hr
        · iexact He
      · have hamt : (rd t).dst.view.amount (.dma sem) = N := hrow t
        rw [hamt]
        iapply (Transfers.batch_creditUpdate EC (D := D) ⟨j + t.val, by have := t.isLt; omega⟩ (hD t))
        isplitr; · iexact Hinv
        iexact Hγ
    unfold Stream.res
    ihave H1 := Transfers.bigSep_sep_in _ _ _ $$ [Hrows Ht]; · isplitl [Hrows] <;> iassumption
    iapply (Transfers.bigSep_mono_pers Finset.univ _ _ _ fun t _ => hone t)
    isplitr; · iexact Hinv
    iexact H1
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Streams
-- ==== Proof.Setup.lean ====
/-
  The launch: the program as the launch theorem sees it, the arrays by their names, and what passes between the
  device's main program and the sixteen tiles.  Every tile receives a share of the packed input (all of which it may
  gather from) and its own part of the output; it gives back the same share and its part holding the selected words.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index
public import proofs.«01_k».proof.Proof.Gen.Kernel
public import proofs.«01_k».proof.Proof.Gen.Kernel.Skeleton
public import proofs.«01_k».proof.Proof.Streams

@[expose] public section

noncomputable section

namespace Cert.Proof.Boxes

open Cert.Kernel Cert.Kernel.Gen Cert.Streams

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

/-! ## The program -/

/-- The labels of the program's calls. -/
abbrev ΛP : Labels := Pipeline.Sig Λ₀ (Fin 0) fun p => (pcfgs (F := F) p).Adm
/-- The program's one SparseCore call. -/
abbrev K : SparseCore.Cfg τ sig (ΛP (F := F)) 1 := sc (F := F)
/-- The call runs on sixteen tiles. -/
theorem nSub_zero : (K (F := F)).nSub 0 = 16 := rfl
/-- The program's definitions, below the call. -/
abbrev D : Defs nD τ sig (Elt F) (ΛP (F := F)) := Pipeline.defs pcfgs defs₀
/-- No loop of the kernel needs a measure. -/
abbrev 𝒱₀ : Variants := Variants.none
/-- Nor does one of the program. -/
abbrev 𝒱 : Variants := 𝒱₀.lift
/-- The measure at the start. -/
abbrev v₀ : 𝒱.V := Sum.inl none

/-- The launch's own semaphores are distinct and no tile's scratch, and no array is shared by several tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state of the launch's handshakes. -/
abbrev UH : Type := URounds (GSem nD τ sig) ℕ
/-- That, and the tiles' own copy counters. -/
abbrev UU : Type := UH × Counters

local notation "𝕄" => MT nD τ sig (HIx 1) (Elt F) ℕ UU ℕ

/-- Where the handshakes' ghost state lives. -/
abbrev EH : Emb UH (MT nD τ sig (HIx 1) (Elt F) ℕ UU ℕ) := embL

/-! ## The arrays -/

/-- A one-dimensional array of 32-bit words. -/
abbrev Words (k : ℕ) : Type := (⟨1, ![k]⟩ : Shape).Idx → BitVec 32

/-- Where a device keeps the packed input. -/
abbrev pLoc (d : Dev nD) : Loc nD τ sig := (SparseCore.T d).loc main_v6
/-- Where a device keeps the call's output. -/
abbrev oLoc (d : Dev nD) : Loc nD τ sig := (SparseCore.T d).loc main_v7

/-- The packed input, as a tile sees it. -/
abbrev packedM : Memref sig .scVector .hbm S95000 .i32 := Memref.whole main_v6_scv
/-- The output, as a tile sees it. -/
abbrev outM : Memref sig .scVector .hbm S20000 .i32 := Memref.whole main_v7_scv
/-- A tile's fetched box numbers. -/
abbrev fetchM : Memref sig .scVector .vmem S320 .i32 := Memref.whole cc0_scratch0
/-- A tile's position list. -/
abbrev posM : Memref sig .scVector .vmem S1280 .i32 := Memref.whole cc0_scratch1
/-- A tile's gathered words. -/
abbrev valM : Memref sig .scVector .vmem S1280 .i32 := Memref.whole cc0_scratch2

/-- The entry `n` of a one-dimensional array of `k` entries; the numbers past the end wrap around. -/
def nth (k : ℕ) [NeZero k] (n : ℕ) : (⟨1, ![k]⟩ : Shape).Idx := ix1 ⟨n % k, Nat.mod_lt _ (NeZero.pos k)⟩

/-- What the kernel leaves at each entry of its output: entry `5000 c + r` is component `c` of the box whose number is
    in row `r` of the selection's last column. -/
def OUT (p : Words 95000) : Words 20000 := fun e =>
  p (nth 95000 (15000 + 20000 * ((e 0).val / 5000) + (p (nth 95000 (10000 + (e 0).val % 5000))).toNat))

/-- The packed input holds box numbers below 20000 where the kernel reads box numbers. -/
def InRange (p : Words 95000) : Prop := ∀ r, r < 5000 → (p (nth 95000 (10000 + r))).toNat < 20000

/-- The output entries that tile `w` writes: rows `320 w` to `320 w + 319` of every component. -/
def part (w : ℕ) : Finset S20000.Idx := Finset.univ.filter fun e => (e 0).val % 5000 / 320 = w

/-- Tile `w`'s share of the packed input. -/
abbrev share (w : Fin 16) : PosShare TreeShare := pieceOf fullShare 16 (by decide) w

/-! ## What the launch passes on -/

section Payload

variable (vp : Dev nD → Words 95000) (vo : Dev nD → Words 20000)

/-- All of the packed input. -/
abbrev pPts (d : Dev nD) : sProp 𝕄 := pLoc d ↦{fullShare} vp d
/-- A tile's share of the packed input. -/
abbrev pShare (d : Dev nD) (w : Fin 16) : sProp 𝕄 := pLoc d ↦{share w} vp d
/-- All of the output, holding `f`. -/
abbrev oPts (d : Dev nD) (f : Words 20000) : sProp 𝕄 := oLoc d ↦{fullShare} f
/-- A tile's part of the output, holding `f`. -/
abbrev oPart (d : Dev nD) (w : Fin 16) (f : Words 20000) : sProp 𝕄 := oLoc d ↦[part w.val]{fullShare} f

/-- What the call takes and gives back, and what each tile takes and gives back. -/
def P : (K (F := F)).Pay (nD := nD) (Val := Elt F) (Name := ℕ) (U := UU) where
  st := fun q d _ => match q with | 0 => iprop(pPts (F := F) vp d ∗ oPts (F := F) d (vo d))
  dn := fun q d _ => match q with | 0 => iprop(pPts (F := F) vp d ∗ oPts (F := F) d (OUT (vp d)))
  go := fun q d _ i => match q with
    | 0 => iprop(pShare (F := F) vp d (Fin.cast nSub_zero i) ∗ oPart (F := F) d (Fin.cast nSub_zero i) (vo d))
  td := fun q d _ i => match q with
    | 0 => iprop(pShare (F := F) vp d (Fin.cast nSub_zero i) ∗ oPart (F := F) d (Fin.cast nSub_zero i) (OUT (vp d)))
  x := fun _ _ => iprop(emp)

/-- What the launch passes on may be kept in its handshakes. -/
instance P_storable : (P (F := F) vp vo).IsStorable where
  st q d _ := match q with
    | 0 => (inferInstance : BI.Storable (upEmb : UEmb _ 𝕄) iprop(pPts vp d ∗ oPts d (vo d)))
  dn q d _ := match q with
    | 0 => (inferInstance : BI.Storable (upEmb : UEmb _ 𝕄) iprop(pPts vp d ∗ oPts d (OUT (vp d))))
  go q d _ i := match q with
    | 0 => (inferInstance : BI.Storable (upEmb : UEmb _ 𝕄)
      iprop(pShare vp d (Fin.cast nSub_zero i) ∗ oPart d (Fin.cast nSub_zero i) (vo d)))
  td q d _ i := match q with
    | 0 => (inferInstance : BI.Storable (upEmb : UEmb _ 𝕄)
      iprop(pShare vp d (Fin.cast nSub_zero i) ∗ oPart d (Fin.cast nSub_zero i) (OUT (vp d))))

end Payload

/-! ## A tile's own buffers and semaphores -/

section Own

variable (d : Dev nD) (L : grid0.Coords)

/-- The SparseCore of a grid point. -/
abbrev cV (L : grid0.Coords) : Fin τ.nSC := (L 0).castLE hcore0
/-- The number of a grid point's tile on its SparseCore. -/
abbrev jV (L : grid0.Coords) : Fin τ.nSub := (L 1).castLE hsub0
/-- The grid has sixteen tiles. -/
theorem bound_one : grid0.bound 1 = 16 := rfl
/-- A grid point's tile among the sixteen. -/
abbrev jL (L : grid0.Coords) : Fin 16 := Fin.cast bound_one (L 1)
/-- The tile of the grid point `L`. -/
abbrev tile (d : Dev nD) (L : grid0.Coords) : Thread nD τ := V d (cV L) (jV L)

/-- DMA semaphore `k` of the tile, free. -/
abbrev free (k : Fin 18) : sProp 𝕄 := semVal (tile d L, (SemLoc.dma k : SemLoc sig)) 0

/-- The cell of DMA semaphore `k` of the tile. -/
def cell : Fin 18 ↪ GSem nD τ sig :=
  ⟨fun k => (tile d L, (SemLoc.dma k : SemLoc sig)), by intro a b h; exact SemLoc.dma.inj (Prod.ext_iff.mp h).2⟩

/-- The semaphores of the tile other than the DMA semaphores that the body names. -/
def otherCells : Finset (GSem nD τ sig) := ownCells (tile d L) \ Finset.univ.map (cell d L)

/-- The tile's free semaphores are the body's eighteen and the rest. -/
theorem ownSems0_tile : (ownSems0 (tile d L) : sProp 𝕄)
    = iprop((bigSep Finset.univ fun k : Fin 18 => free (F := F) d L k) ∗ bigSep (otherCells d L) fun s => semVal s 0) := by
  have hsub : Finset.univ.map (cell d L) ⊆ ownCells (tile d L) := by
    intro s hs
    obtain ⟨k, -, rfl⟩ := Finset.mem_map.mp hs
    refine mem_ownCells.mpr ⟨rfl, ?_⟩
    show (SemLoc.dma k : SemLoc sig).isScoped .scVector = true
    exact (by decide : ∀ k : Fin 18, (SemLoc.dma k : SemLoc sig).isScoped .scVector = true) k
  have hcell : ownCells (tile d L) = Finset.univ.map (cell d L) ∪ otherCells d L :=
    (Finset.union_sdiff_of_subset hsub).symm
  unfold SparseCore.Cfg.ownSems0
  have hdisj : Disjoint (Finset.univ.map (cell d L)) (otherCells d L) := Finset.disjoint_sdiff
  rw [hcell, BI.bigSep_union hdisj, BI.bigSep_map]
  rfl

/-- A family over the eighteen semaphores, one by one. -/
theorem each18 (Φ : Fin 18 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  rw [show (Finset.univ : Finset (Fin 18)) = {0, 1, 2, 3, 4, 5, 6, 7, 8, 9, 10, 11, 12, 13, 14, 15, 16, 17} from by decide]
  repeat rw [SparseCore.bigSep_insert' (by decide)]
  rw [bigSep_singleton]

/-- A buffer of the tile at some contents. -/
abbrev someOf (b : Ref sig .scVector) : sProp 𝕄 := iprop(∃ f, (tile d L).loc b ↦{fullShare} f)

/-- The tile's buffers other than the three that the body uses. -/
def otherRefs : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

/-- The tile's buffers are the three that the body uses and the rest. -/
theorem ownBufs_tile : (ownBufs (tile d L) : sProp 𝕄)
    = iprop(someOf (F := F) d L cc0_scratch0 ∗ someOf (F := F) d L cc0_scratch1 ∗ someOf (F := F) d L cc0_scratch2
        ∗ bigSep (otherRefs L) fun b => iprop(∃ f, ((d, b) : Loc nD τ sig) ↦{fullShare} f)) := by
  have own : ∀ b : Ref sig .scVector, ((Proc.scVector (cV L) (jV L)).devRef b).owner = .proc (.scVector (cV L) (jV L)) →
      (Proc.scVector (cV L) (jV L)).devRef b ∈ ownRefs (τ := τ) (.scVector (cV L) (jV L)) := fun b h =>
    SparseCore.Cfg.mem_ownRefs_of_owner h
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]
  rfl

/-! ## Which branch a tile takes -/

/-- The grid has one SparseCore. -/
theorem L0 : (L 0).val = 0 := by have := (L 0).isLt; have h : grid0.bound 0 = 1 := rfl; omega
/-- A tile's number is below sixteen. -/
theorem L1 : (L 1).val < 16 := (L 1).isLt

/-- The grid point with the given coordinates. -/
def coordsV (c : Fin (grid0.bound 0)) (s : Fin (grid0.bound 1)) : grid0.Coords :=
  fun | 0 => c | 1 => s | ⟨_ + 2, h⟩ => absurd h (Nat.not_lt.2 (Nat.le_add_left _ _))

/-- A grid point is that of its own tile. -/
theorem coordsV_eta : coordsV (0 : Fin 1) (L 1) = L := by
  funext a
  match a with
  | 0 => exact Fin.ext (L0 L).symm
  | 1 => rfl

/-- The first branch is the first fifteen tiles'. -/
theorem first_iff : k0_cond1 L = 1#1 ↔ (L 1).val < 15 := by
  rw [← coordsV_eta L]
  exact (by decide +kernel : ∀ s : Fin 16, k0_cond1 (coordsV (0 : Fin 1) s) = 1#1 ↔ s.val < 15) (L 1)

/-- The second branch is the last tile's. -/
theorem last_iff : k0_cond2 L = 1#1 ↔ (L 1).val = 15 := by
  rw [← coordsV_eta L]
  exact (by decide +kernel : ∀ s : Fin 16, k0_cond2 (coordsV (0 : Fin 1) s) = 1#1 ↔ s.val = 15) (L 1)

end Own

end Cert.Proof.Boxes
-- ==== Proof.Cells.lean ====
/-
  One-dimensional arrays entry by entry, and the indirect gather over them.  A window of an array is the run of its
  entries by number; a gather of `o` words at `b` takes the entries `b` to `b + o - 1` of the position list, and brings
  to the same entries of the gathered words what the packed input holds at those positions.
-/
module

public import proofs.«01_k».proof.Proof.Setup
public import Idealize.ShloMosaic.Lib.Batch

@[expose] public section

noncomputable section

namespace Cert.Proof.Boxes

open Cert.Kernel Cert.Kernel.Gen Cert.Streams

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## Entries by number -/

/-- Entries of different numbers below the length are different. -/
theorem nth_inj {k : ℕ} [NeZero k] {m n : ℕ} (hm : m < k) (hn : n < k) (h : nth k m = nth k n) : m = n := by
  have h' := congrArg Fin.val (congrFun h 0)
  change m % k = n % k at h'
  rwa [Nat.mod_eq_of_lt hm, Nat.mod_eq_of_lt hn] at h'

/-- An index of a one-dimensional array is the entry of its number. -/
theorem eq_nth {k : ℕ} [NeZero k] (i : (⟨1, ![k]⟩ : Shape).Idx) {n : ℕ} (h : (i 0).val = n) : i = nth k n := by
  funext a
  match a with
  | 0 =>
    refine Fin.ext (h.trans ?_)
    show n = n % k
    exact (Nat.mod_eq_of_lt (h ▸ (i 0).isLt)).symm

/-- Entry `n` of an array longer than `n` has the number `n`. -/
theorem nth_val {k : ℕ} [NeZero k] {n : ℕ} (h : n < k) : ((nth k n) 0).val = n := Nat.mod_eq_of_lt h

/-- The entries `b` to `b + o - 1`. -/
def win (k : ℕ) [NeZero k] (b o : ℕ) : Finset (⟨1, ![k]⟩ : Shape).Idx := (Finset.Ico b (b + o)).image (nth k)

/-- An index is in a window when its number lies in the window's range. -/
theorem mem_win {k : ℕ} [NeZero k] {b o : ℕ} (h : b + o ≤ k) (i : (⟨1, ![k]⟩ : Shape).Idx) :
    i ∈ win k b o ↔ b ≤ (i 0).val ∧ (i 0).val < b + o := by
  unfold win
  rw [Finset.mem_image]
  constructor
  · rintro ⟨n, hn, rfl⟩
    obtain ⟨h₁, h₂⟩ := Finset.mem_Ico.mp hn
    rw [nth_val (by omega)]; exact ⟨h₁, h₂⟩
  · intro hi; exact ⟨(i 0).val, Finset.mem_Ico.mpr hi, (eq_nth i rfl).symm⟩

/-- The window of all entries is the whole array. -/
theorem win_all {k : ℕ} [NeZero k] : win k 0 k = Finset.univ := by
  ext i
  rw [mem_win (by omega)]
  have := (i 0).isLt
  exact ⟨fun _ => Finset.mem_univ _, fun _ => ⟨Nat.zero_le _, by simpa using this⟩⟩

/-- The entries that a unit-stride rectangle addresses. -/
theorem set_unit {k b o : ℕ} [NeZero k] {off size : Fin 1 → ℕ} {inb} (hb : off 0 = b) (ho : size 0 = o) (h : b + o ≤ k) :
    (Rect.unit (s := (⟨1, ![k]⟩ : Shape)) off size inb).set = win k b o := by
  ext i
  rw [Rect.mem_set_unit, mem_win h]
  constructor
  · intro hi; have := hi 0; rw [hb, ho] at this; exact this
  · intro hi a; match a with | 0 => rw [hb, ho]; exact hi

/-- The entry that a unit-stride rectangle's index addresses. -/
theorem emb_unit {k b : ℕ} [NeZero k] {off size : Fin 1 → ℕ} {inb} (hb : off 0 = b)
    (x : (Rect.unit (s := (⟨1, ![k]⟩ : Shape)) off size inb).shape.Idx) :
    (Rect.unit (s := (⟨1, ![k]⟩ : Shape)) off size inb).emb x = nth k (b + (x 0).val) :=
  eq_nth _ (by show off 0 + 1 * (x 0).val = _; rw [hb, Nat.one_mul])

section Points

variable {ℓ : Loc nD τ sig} {q : PosShare TreeShare} {f : Buf (Elt F) ℓ}

/-- The points-to of a run of entries is that of each. -/
theorem pts_run (g : ℕ → Idx ℓ) {b e : ℕ} (hg : ∀ m n, m < e → n < e → g m = g n → m = n) :
    (ℓ ↦[(Finset.Ico b e).image g]{q} f : sProp 𝕄) = bigSep (Finset.Ico b e) fun n => ℓ ↦[{g n}]{q} f := by
  rw [← Finset.biUnion_singleton, pointsTo_biUnion]
  intro m hm n hn hne
  rw [Finset.disjoint_singleton]
  exact fun h => hne (hg m n (Finset.mem_Ico.mp hm).2 (Finset.mem_Ico.mp hn).2 h)

end Points

/-! ## The gather -/

section Gather

variable (d : Dev nD) (L : grid0.Coords)

/-- Where a tile keeps its fetched box numbers. -/
abbrev fetchL : Loc nD τ sig := fetchM.view.loc (tile d L)
/-- Where a tile keeps its position list. -/
abbrev posL : Loc nD τ sig := posM.view.loc (tile d L)
/-- Where a tile keeps its gathered words. -/
abbrev valL : Loc nD τ sig := valM.view.loc (tile d L)

/-- Share `n` of the packed input, of the 1280 that the gathers of one tile take. -/
abbrev cut (q : PosShare TreeShare) (n : ℕ) : PosShare TreeShare := pieceOf q 1280 (by decide) ⟨n % 1280, Nat.mod_lt _ (by decide)⟩

variable (q : PosShare TreeShare) (fp : Words 95000) (fo fv : Words 1280)

/-- The gathered words: entry `e` is what the packed input holds at the position in entry `e` of the list. -/
def gathered : Words 1280 := fun e => fp (nth 95000 (fo e).toNat)

/-- What entry `n` of a gather needs, the entry of the gathered words holding `fv`. -/
abbrev row (n : ℕ) : sProp 𝕄 :=
  iprop(((valL d L ↦[{nth 1280 n}]{fullShare} fv) ∗ (posL d L ↦[{nth 1280 n}]{fullShare} fo)) ∗ (pLoc d ↦{cut q n} fp))

/-- The rows from `b` on, not issued yet. -/
abbrev todo (b : ℕ) : sProp 𝕄 := bigSep (Finset.Ico b 1280) (row (F := F) d L q fp fo fv)

/-- What a tile's copy of one word credits its semaphore. -/
abbrev unit1 : ℕ := 32

/-- The `n` rows from `b` on, gathered on one semaphore: `j` issued, `u` units waited for. -/
abbrev batch (sem : DmaSem sig) (b n j u : ℕ) : sProp 𝕄 :=
  Transfers.Batch countersEmb (tile d L) (.dma sem) (default : HIx 1) unit1
    (fun t : Fin n => row (F := F) d L q fp fo (gathered fp fo) (b + t.val)) j u

/-- The packed input, sliced whole, as the gathers name it. -/
abbrev allPacked : Memref sig .scVector .hbm S95000 .i32 :=
  packedM.slice (Rect.unit (s := S95000) ![0] S95000.size inb_S95000_S95000_0) (fun _ => rfl)
/-- The window of `o` entries at `b` of a list of 1280. -/
abbrev sub (M : Memref sig .scVector .vmem S1280 .i32) (b o : ℕ) (inb : ∀ a, (![b] : Fin 1 → ℕ) a + (⟨1, ![o]⟩ : Shape).size a ≤ S1280.size a) :
    Memref sig .scVector .vmem ⟨1, ![o]⟩ .i32 := M.slice (Rect.unit (s := S1280) ![b] (⟨1, ![o]⟩ : Shape).size inb) (fun _ => rfl)

/-- That slice covers every entry. -/
theorem allPacked_set : allPacked.view.set = Finset.univ :=
  (View.set_slice_whole main_v6_scv _).trans ((set_unit (k := 95000) (b := 0) (o := 95000) rfl rfl (by decide)).trans win_all)

/-- Each of its entries is the entry of the same number. -/
theorem allPacked_emb (i : S95000.Idx) : allPacked.view.emb i = i := by
  refine (emb_unit (k := 95000) (b := 0) rfl i).trans ?_
  exact (eq_nth i (Nat.zero_add _).symm).symm

section Entry

variable {b o : ℕ} (inb : ∀ a, (![b] : Fin 1 → ℕ) a + (⟨1, ![o]⟩ : Shape).size a ≤ S1280.size a)

/-- Entry `x` of a window at `b` of the position list is entry `b + x` of the list. -/
theorem pos_emb (x : (⟨1, ![o]⟩ : Shape).Idx) : (sub posM b o inb).view.emb x = nth 1280 (b + (x 0).val) :=
  emb_unit (k := 1280) (b := b) rfl x

/-- The `t`th entry of a one-dimensional shape has the number `t`. -/
theorem entry_val {z : ℕ} (hn : (⟨1, ![o]⟩ : Shape).numel = z) (t : Fin z) : ((entry hn t) 0).val = t.val := by
  rw [← Shape.rowMajor_val_one (entry hn t)]
  unfold entry
  rw [Equiv.apply_symm_apply]; rfl

variable (hg : S95000.Gathers 0 ⟨1, ![o]⟩) (t : Fin ((⟨1, ![o]⟩ : Shape).size hg.axis'))

/-- Row `t` of a window, as a view of one entry. -/
abbrev rowView : View sig .scVector .vmem ((⟨1, ![o]⟩ : Shape).rowShape hg.axis') .i32 :=
  (sub valM b o inb).view.slice ((⟨1, ![o]⟩ : Shape).rowRect hg.axis' t)

/-- The one entry of row `t` of a window at `b` is entry `b + t` of the gathered words. -/
theorem row_emb (x : ((⟨1, ![o]⟩ : Shape).rowShape hg.axis').Idx) : (rowView inb hg t).emb x = nth 1280 (b + t.val) := by
  refine eq_nth _ ?_
  have hx : (x (0 : Fin 1)).val = 0 := by
    have h : (x (0 : Fin 1)).val < 1 := (x (0 : Fin 1)).isLt
    omega
  show b + 1 * (t.val + 1 * (x (0 : Fin 1)).val) = b + t.val
  rw [hx]; omega

/-- The index of a one-entry shape. -/
def rowIx : ((⟨1, ![o]⟩ : Shape).rowShape hg.axis').Idx := fun a =>
  ⟨0, Nat.lt_of_lt_of_eq Nat.one_pos (if_pos (Fin.ext (by have h : a.val < 1 := a.isLt; have h' : (hg.axis').val = 0 := rfl; omega))).symm⟩

/-- Row `t` of a window at `b` covers exactly that entry. -/
theorem row_set : (rowView inb hg t).set = {nth 1280 (b + t.val)} := by
  ext i
  rw [Finset.mem_singleton]
  show i ∈ Finset.univ.map (rowView inb hg t).emb ↔ _
  rw [Finset.mem_map]
  constructor
  · rintro ⟨x, -, rfl⟩; exact row_emb inb hg t x
  · rintro rfl; exact ⟨rowIx hg, Finset.mem_univ _, row_emb inb hg t _⟩

end Entry

/-- ISSUING A GATHER of `o` words at `b`: its rows pass from those not issued to the batch of its semaphore. -/
theorem gather_step {α : Type} {Q : α → sProp 𝕄} {b o base n j u : ℕ} {sem : DmaSem sig} (hbo : b + o ≤ 1280) (hbj : base + j = b) (hjn : j + o ≤ n) (hu : u ≤ j * unit1)
    (hin : ∀ m, b ≤ m → m < b + o → (fo (nth 1280 m)).toNat < 95000)
    {inb inb'} {hg : S95000.Gathers 0 ⟨1, ![o]⟩} {hn : (⟨1, ![o]⟩ : Shape).numel = (⟨1, ![o]⟩ : Shape).size hg.axis'}
    (hrow : ∀ t, (rowView inb hg t).dmaCredit = unit1)
    {hsrc : allPacked.view.WordExact} {he hsp hr} {k : PUnit → Prog (TpuEff nD τ sig (Elt F) Λ₀ (.scVector (cV L) (jV L))) α} :
    iprop(todo (F := F) d L q fp fo fv b ∗ batch (F := F) d L q fp fo sem base n j u)
      ⊢ iprop((iprop(todo (F := F) d L q fp fo fv (b + o) ∗ batch (F := F) d L q fp fo sem base n (j + o) u)
            -∗ wp frame (wpE (defs₀ (F := F)) 𝒱₀ (tile d L) none) Set.univ (k ⟨⟩) Q)
          -∗ wp frame (wpE (defs₀ (F := F)) 𝒱₀ (tile d L) none) Set.univ
            (SparseCore.enqueueIndirectGather rfl allPacked (sub valM b o inb) hg (sub posM b o inb') hn sem hsrc he hsp hr >>= k) Q) := by
  have hin' : ∀ x, ((sub posM b o inb').view.read (Elt F) (fo : Buf (Elt F) (posL d L)) x).toNat < S95000.size hg.axis := fun x => by
    have h : (sub posM b o inb').view.read (Elt F) (fo : Buf (Elt F) (posL d L)) x = fo (nth 1280 (b + (x 0).val)) :=
      (View.read_apply _ _).trans (congrArg fo (pos_emb inb' x))
    rw [h]
    have hx : (x 0).val < o := (x 0).isLt
    exact hin _ (by omega) (by omega)
  have hval : ∀ t, ((rowView inb hg t).write (Elt F) (fv : Buf (Elt F) (valL d L))
      (fun i => allPacked.view.read (Elt F) (fp : Buf (Elt F) (pLoc d)) (hg.rowIdx (SparseCore.rows ((sub posM b o inb').view.read (Elt F) (fo : Buf (Elt F) (posL d L))) hn hin' t) i)) Finset.univ)
        (nth 1280 (b + t.val)) = gathered fp fo (nth 1280 (b + t.val)) := fun t => by
    rw [← row_emb inb hg t (rowIx hg)]
    refine (View.write_emb_of_mem _ _ (Finset.mem_univ _)).trans ?_
    rw [row_emb inb hg t (rowIx hg)]
    show allPacked.view.read (Elt F) (fp : Buf (Elt F) (pLoc d)) _ = fp _
    refine (View.read_apply _ _).trans ?_
    show fp (allPacked.view.emb _) = _
    rw [allPacked_emb]
    refine congrArg fp (eq_nth _ ?_)
    have hax : hg.axis = 0 := rfl
    refine (congrArg Fin.val (hg.rowIdx_axis _ (rowIx hg))).trans ?_
    show ((sub posM b o inb').view.read (Elt F) (fo : Buf (Elt F) (posL d L)) (entry hn t)).toNat = _
    have h : (sub posM b o inb').view.read (Elt F) (fo : Buf (Elt F) (posL d L)) (entry hn t) = fo (nth 1280 (b + t.val)) := by
      refine (View.read_apply _ _).trans (congrArg fo ((pos_emb inb' _).trans ?_))
      rw [entry_val]
    rw [h]
  have hent : ∀ t, (sub posM b o inb').view.emb (entry hn t) = nth 1280 (b + t.val) := fun t => by
    rw [pos_emb, entry_val]
  have hsplit : todo (F := F) d L q fp fo fv b
      = iprop((bigSep Finset.univ fun t : Fin o => row (F := F) d L q fp fo fv (b + t.val)) ∗ todo (F := F) d L q fp fo fv (b + o)) := by
    unfold todo
    rw [run_split _ (show b ≤ b + o by omega) hbo, run_fin]
  have hw : ∀ t, ((sub valM b o inb).view.loc (tile d L) ↦[(rowView inb hg t).set]{fullShare}
      ((rowView inb hg t).write (Elt F) (fv : Buf (Elt F) (valL d L))
      (fun i => allPacked.view.read (Elt F) (fp : Buf (Elt F) (pLoc d)) (hg.rowIdx (SparseCore.rows ((sub posM b o inb').view.read (Elt F) (fo : Buf (Elt F) (posL d L))) hn hin' t) i)) Finset.univ) : sProp 𝕄)
      = (valL d L ↦[{nth 1280 (b + t.val)}]{fullShare} gathered fp fo) := fun t => by
    rw [row_set]
    exact pointsTo_congr fun i hi => by rw [Finset.mem_singleton.mp hi]; exact hval t
  have hw₀ : ∀ t, ((sub valM b o inb).view.loc (tile d L) ↦[(rowView inb hg t).set]{fullShare} (fv : Buf (Elt F) (valL d L)) : sProp 𝕄)
      = (valL d L ↦[{nth 1280 (b + t.val)}]{fullShare} fv) := fun t => by rw [row_set]
  have hp : ∀ t, ((sub posM b o inb').view.loc (tile d L) ↦[{(sub posM b o inb').view.emb (entry hn t)}]{fullShare} (fo : Buf (Elt F) (posL d L)) : sProp 𝕄)
      = (posL d L ↦[{nth 1280 (b + t.val)}]{fullShare} fo) := fun t => by rw [hent t]
  have hs : ∀ t : Fin ((⟨1, ![o]⟩ : Shape).size hg.axis'), (allPacked.view.loc (tile d L) ↦[allPacked.view.set]{cut q (b + t.val)} (fp : Buf (Elt F) (pLoc d)) : sProp 𝕄)
      = (pLoc d ↦{cut q (b + t.val)} fp) := fun t => by rw [allPacked_set]
  have hstep := wp_gatherBatch (F := F) (defs := defs₀ (F := F)) countersEmb 𝒱₀ (tile d L) none (Q := Q) (k := k)
    (src := allPacked) (dst := sub valM b o inb) (hg := hg) (offs := sub posM b o inb') (hn := hn) (sem := sem) (hp := rfl) (hsrc := hsrc) (he := he) (hsp := hsp) (hr := hr)
    (qo := fullShare) (qk := fun t => cut q (b + t.val)) (fs := (fp : Buf (Elt F) (pLoc d))) (fd := (fv : Buf (Elt F) (valL d L))) (fo := (fo : Buf (Elt F) (posL d L)))
    (n := n) (D := fun t : Fin n => row (F := F) d L q fp fo (gathered fp fo) (base + t.val)) (j := j) (u := u) (default : HIx 1) unit1 hrow hjn hu hin'
    (fun t => by
      have e : row (F := F) d L q fp fo (gathered fp fo) (b + t.val) = row (F := F) d L q fp fo (gathered fp fo) (base + (j + t.val)) := by
        rw [show base + (j + t.val) = b + t.val by omega]
      exact (sep_mono (sep_mono (Entails.of_eq (hw t)) (Entails.of_eq (hp t))) (Entails.of_eq (hs t))).trans (Entails.of_eq e))
  have hrows : (bigSep Finset.univ fun t : Fin o => row (F := F) d L q fp fo fv (b + t.val))
      ⊢ bigSep Finset.univ fun t : Fin ((⟨1, ![o]⟩ : Shape).size hg.axis') =>
        iprop((((sub valM b o inb).view.loc (tile d L) ↦[(rowView inb hg t).set]{fullShare} (fv : Buf (Elt F) (valL d L)))
          ∗ ((sub posM b o inb').view.loc (tile d L) ↦[{(sub posM b o inb').view.emb (entry hn t)}]{fullShare} (fo : Buf (Elt F) (posL d L))))
        ∗ (allPacked.view.loc (tile d L) ↦[allPacked.view.set]{cut q (b + t.val)} (fp : Buf (Elt F) (pLoc d))) : sProp 𝕄) :=
    BI.bigSep_mono fun t _ => sep_mono (sep_mono (Entails.of_eq (hw₀ t).symm) (Entails.of_eq (hp t).symm)) (Entails.of_eq (hs t).symm)
  rw [hsplit]
  iintro ⟨⟨Hrows, Htodo⟩, Hb⟩ Hk
  iapply hstep $$ [Hrows Hb]
  · isplitl [Hrows]; · iapply hrows $$ Hrows
    iexact Hb
  iintro Hb
  iapply Hk
  isplitl [Htodo]; · iexact Htodo
  iexact Hb

/-- WAITING for a gather of `o` words: `o` words' units of its semaphore are taken. -/
theorem wait_step {α : Type} {Q : α → sProp 𝕄} {b o base n j u : ℕ} {sem : DmaSem sig} (hu : u + o * unit1 ≤ unit1 * j) {inb}
    (hcr : (sub valM b o inb).view.dmaCredit = o * unit1)
    {hsrc hdst} {O : CellTallies nD τ sig (HIx 1)} {W : Waits sig (HIx 1)} {k : PUnit → Prog (TpuEff nD τ sig (Elt F) Λ₀ (.scVector (cV L) (jV L))) α} :
    iprop(batch (F := F) d L q fp fo sem base n j u ∗ owes (tile d L) O W ∗ MayWait (tile d L) (.dma sem) (default : HIx 1) O)
      ⊢ iprop((iprop(batch (F := F) d L q fp fo sem base n j (u + o * unit1) ∗ owes (tile d L) O (insert (SemLoc.dma sem, (default : HIx 1)) W))
            -∗ wp frame (wpE (defs₀ (F := F)) 𝒱₀ (tile d L) none) Set.univ (k ⟨⟩) Q)
          -∗ wp frame (wpE (defs₀ (F := F)) 𝒱₀ (tile d L) none) Set.univ
            (SparseCore.waitIndirectGather sem allPacked (sub valM b o inb) hsrc hdst >>= k) Q) := by
  show _ ⊢ iprop(_ -∗ wp frame (wpE (defs₀ (F := F)) 𝒱₀ (tile d L) none) Set.univ (.op (.waitDma2 sem allPacked (sub valM b o inb) hsrc hdst) k) Q)
  exact Transfers.wp_waitBatchMulO countersEmb 𝒱₀ (tile d L) none (default : HIx 1) o hcr hu

/-- Before any row is issued the semaphore is free; -/
theorem batch_start {sem : DmaSem sig} (base n : ℕ) : free (F := F) d L sem ⊢ |={Set.univ}=> batch (F := F) d L q fp fo sem base n 0 0 :=
  Transfers.batch_alloc' countersEmb (tile d L) (sm := .dma sem) (default : HIx 1) unit1 _

/-- and once every row has been waited for it is free again, every row delivered. -/
theorem batch_end {sem : DmaSem sig} {base n : ℕ} :
    batch (F := F) d L q fp fo sem base n n (unit1 * n)
      ⊢ |={Set.univ}=> iprop((bigSep (Finset.Ico base (base + n)) (row (F := F) d L q fp fo (gathered fp fo))) ∗ free (F := F) d L sem) := by
  rw [run_fin]
  exact Transfers.batch_collect' countersEmb (tile d L) (by decide)

end Gather

/-- Each row of a gather of 128 words credits one unit. -/
theorem row_credit128 {b : ℕ} {inb} (hg : S95000.Gathers 0 S128) (t) : (rowView (b := b) (o := 128) inb hg t).dmaCredit = unit1 :=
  (by decide : (rowView (b := 0) (o := 128) (by decide) gathers_S95000_S128 (0 : Fin 128)).dmaCredit = unit1)
/-- Each row of a gather of 64 words credits one unit. -/
theorem row_credit64 {b : ℕ} {inb} (hg : S95000.Gathers 0 S64) (t) : (rowView (b := b) (o := 64) inb hg t).dmaCredit = unit1 :=
  (by decide : (rowView (b := 0) (o := 64) (by decide) gathers_S95000_S64 (0 : Fin 64)).dmaCredit = unit1)
/-- A gather of 128 words credits 128 units. -/
theorem credit128 {b : ℕ} {inb} : (sub valM b 128 inb).view.dmaCredit = 128 * unit1 :=
  (by decide : (sub valM 0 128 (by decide)).view.dmaCredit = 128 * unit1)
/-- A gather of 64 words credits 64 units. -/
theorem credit64 {b : ℕ} {inb} : (sub valM b 64 inb).view.dmaCredit = 64 * unit1 :=
  (by decide : (sub valM 0 64 (by decide)).view.dmaCredit = 64 * unit1)

end Cert.Proof.Boxes
-- ==== Proof.Build.lean ====
/-
  Building the position list.  A tile reads its fetched box numbers sixteen at a time and stores, for every component,
  the sixteen positions of the components in the packed input.  Each step below takes the head of a program that does
  so: the list's groups of sixteen stored so far hold what the list is to hold.
-/
module

public import proofs.«01_k».proof.Proof.Cells

@[expose] public section

noncomputable section

namespace Cert.Proof.Boxes

open Cert.Kernel Cert.Kernel.Gen Cert.Streams

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## What the list is to hold -/

/-- The box number that the last tile takes for the word `x`: `x` itself where it is a box number. -/
def clamp (x : BitVec 32) : BitVec 32 := IntOp.minsi (IntOp.maxsi x 0#32) 19999#32

/-- A clamped word is a box number. -/
theorem clamp_lt (x : BitVec 32) : (clamp x).toNat < 20000 := by
  unfold clamp IntOp.minsi IntOp.maxsi
  have h0 : (0#32 : BitVec 32).toInt = 0 := by decide
  have h1 : (19999#32 : BitVec 32).toInt = 19999 := by decide
  split_ifs with h₁ h₂ h₃
  · simp only [BitVec.slt, decide_eq_true_eq, h0, h1] at h₁ h₂
    have := BitVec.toInt_eq_toNat_cond x
    split_ifs at this <;> omega
  · decide
  · decide
  · decide

/-- Clamping leaves a box number as it is. -/
theorem clamp_of_lt {x : BitVec 32} (h : x.toNat < 20000) : clamp x = x := by
  unfold clamp IntOp.minsi IntOp.maxsi
  have h0 : (0#32 : BitVec 32).toInt = 0 := by decide
  have h1 : (19999#32 : BitVec 32).toInt = 19999 := by decide
  have hx : x.toInt = x.toNat := by
    rw [BitVec.toInt_eq_toNat_cond, if_pos (by omega)]
  split_ifs with h₁ h₂ h₃
  · rfl
  · simp only [BitVec.slt, decide_eq_true_eq, h0, h1, hx] at h₁ h₂
    refine BitVec.eq_of_toNat_eq ?_
    show 19999 = x.toNat
    omega
  · simp only [BitVec.slt, decide_eq_true_eq, h0, h1, hx] at h₁
    refine BitVec.eq_of_toNat_eq ?_
    show 0 = x.toNat
    omega
  · exact absurd (by decide : (0#32 : BitVec 32).slt 19999#32 = true) h₃

/-- Entry `n` of a list of positions that takes `z` boxes a component, `g` of each fetched word as its box number:
    component `n / z` of the box in fetched word `n % z`. -/
def target (z : ℕ) (g : BitVec 32 → BitVec 32) (fb : Words 320) (n : ℕ) : BitVec 32 :=
  g (fb (nth 320 (n % z))) + BitVec.ofNat 32 (15000 + 20000 * (n / z))

/-- Entry by entry within a group of sixteen. -/
theorem target_group {z b : ℕ} (hz : z = 320 ∨ z = 208) (hb : b % 16 = 0) (g : BitVec 32 → BitVec 32) (fb : Words 320) (i : Fin 16) :
    target z g fb (b + i.val) = g (fb (nth 320 (b % z + i.val))) + BitVec.ofNat 32 (15000 + 20000 * (b / z)) := by
  have hi := i.isLt
  have h : (b + i.val) % z = b % z + i.val ∧ (b + i.val) / z = b / z := by
    rcases hz with rfl | rfl <;> constructor <;> omega
  unfold target
  rw [h.1, h.2]

/-- The position, as a number, where the box number is in range. -/
theorem target_val {z n : ℕ} (hz : z = 320 ∨ z = 208) (hn : n < 4 * z) {g : BitVec 32 → BitVec 32} {fb : Words 320}
    (h : (g (fb (nth 320 (n % z)))).toNat < 20000) :
    (target z g fb n).toNat = 15000 + 20000 * (n / z) + (g (fb (nth 320 (n % z)))).toNat := by
  have h4 : n / z < 4 := by rcases hz with rfl | rfl <;> omega
  unfold target
  rw [BitVec.toNat_add, BitVec.toNat_ofNat]
  omega

/-- The groups of sixteen at the places `gs` of the list hold what `T` says. -/
def Agree (T : ℕ → BitVec 32) (gs : List ℕ) (fo : Words 1280) : Prop := ∀ b ∈ gs, b + 16 ≤ 1280 → ∀ i < 16, fo (nth 1280 (b + i)) = T (b + i)

/-- When the groups stored are the first `m`, every entry below `16 m` of the list holds what `T` says. -/
theorem Agree.all {T : ℕ → BitVec 32} {gs : List ℕ} {fo : Words 1280} (h : Agree T gs fo) {m : ℕ} (hm' : m ≤ 80) (hm : ∀ g < m, 16 * g ∈ gs)
    {n : ℕ} (hn : n < 16 * m) : fo (nth 1280 n) = T n := by
  have := h _ (hm (n / 16) (by omega)) (by omega) (n % 16) (by omega)
  rwa [show 16 * (n / 16) + n % 16 = n by omega] at this

/-! ## The steps -/

section Steps

variable (d : Dev nD) (L : grid0.Coords)

/-- The list with the groups `gs` stored, the fetched words `fb`, and what else is held. -/
abbrev built (T : ℕ → BitVec 32) (fb : Words 320) (R : sProp 𝕄) (gs : List ℕ) : sProp 𝕄 :=
  iprop((∃ fo : Words 1280, ⌜Agree T gs fo⌝ ∗ posL d L ↦{fullShare} fo) ∗ (fetchL d L ↦{fullShare} fb) ∗ R)

variable {d L} {T : ℕ → BitVec 32} {fb : Words 320} {gs : List ℕ}

/-- Reading sixteen fetched words. -/
theorem load_step {R : sProp 𝕄} {α : Type} {Q : α → sProp 𝕄} {b : ℕ} {inb} {hl : fetchM.view.LoadsAt (Rect.unit (s := S320) ![b] S16.size inb).toLoadRect}
    {k : (S16.Idx → Elt F .i32) → Prog (TpuEff nD τ sig (Elt F) Λ₀ (.scVector (cV L) (jV L))) α}
    (h : ∀ v : S16.Idx → BitVec 32, (∀ i : Fin 16, v (ix1 i) = fb (nth 320 (b + i.val)))
      → built (F := F) d L T fb R gs ⊢ wp frame (wpE (defs₀ (F := F)) 𝒱₀ (tile d L) none) Set.univ (k v) Q) :
    built (F := F) d L T fb R gs
      ⊢ wp frame (wpE (defs₀ (F := F)) 𝒱₀ (tile d L) none) Set.univ
          (Prog.lift (.load fetchM (Rect.unit (s := S320) ![b] S16.size inb).toLoadRect hl) >>= k) Q := by
  have h' := h (fetchM.view.readAt (Elt F) (Rect.unit (s := S320) ![b] S16.size inb).toLoadRect (fb : Buf (Elt F) (fetchL d L)))
    (fun i => congrArg fb (emb_unit (k := 320) (b := b) (off := ![b]) (size := S16.size) (inb := inb) rfl (ix1 i)))
  show _ ⊢ wp frame (wpE (defs₀ (F := F)) 𝒱₀ (tile d L) none) Set.univ (.op (.load fetchM (Rect.unit (s := S320) ![b] S16.size inb).toLoadRect hl) k) Q
  iintro ⟨Hp, Hf, HR⟩
  iapply (wp_load 𝒱₀ (tile d L) none Set.univ (S := Finset.univ) (q := fullShare) (f := (fb : Buf (Elt F) (fetchL d L))) (Finset.subset_univ _)) $$ Hf
  iintro Hf
  iapply h'
  isplitl [Hp]; · iexact Hp
  isplitl [Hf]; · iexact Hf
  iexact HR

/-- Reading sixteen entries of the list, whatever they hold. -/
theorem dead_step {R : sProp 𝕄} {α : Type} {Q : α → sProp 𝕄} {r : LoadRect S1280} {hl : posM.view.LoadsAt r}
    {k : (r.shape.Idx → Elt F .i32) → Prog (TpuEff nD τ sig (Elt F) Λ₀ (.scVector (cV L) (jV L))) α}
    (h : ∀ v, built (F := F) d L T fb R gs ⊢ wp frame (wpE (defs₀ (F := F)) 𝒱₀ (tile d L) none) Set.univ (k v) Q) :
    built (F := F) d L T fb R gs
      ⊢ wp frame (wpE (defs₀ (F := F)) 𝒱₀ (tile d L) none) Set.univ (Prog.lift (.load posM r hl) >>= k) Q := by
  show _ ⊢ wp frame (wpE (defs₀ (F := F)) 𝒱₀ (tile d L) none) Set.univ (.op (.load posM r hl) k) Q
  iintro ⟨⟨%fo, %ha, Hp⟩, Hf, HR⟩
  iapply (wp_load 𝒱₀ (tile d L) none Set.univ (S := Finset.univ) (q := fullShare) (f := (fo : Buf (Elt F) (posL d L))) (Finset.subset_univ _)) $$ Hp
  iintro Hp
  iapply (h _)
  isplitl [Hp]
  · iexists fo
    isplitl []; · ipureintro; exact ha
    iexact Hp
  isplitl [Hf]; · iexact Hf
  iexact HR

/-- Storing the group at `b`. -/
theorem store_step {R : sProp 𝕄} {α : Type} {Q : α → sProp 𝕄} {b : ℕ} {inb} {w : S16.Idx → BitVec 32} {hx} {hm}
    {k : PUnit → Prog (TpuEff nD τ sig (Elt F) Λ₀ (.scVector (cV L) (jV L))) α}
    (hb : b + 16 ≤ 1280) (hw : ∀ i : Fin 16, w (ix1 i) = T (b + i.val))
    (h : built (F := F) d L T fb R (b :: gs) ⊢ wp frame (wpE (defs₀ (F := F)) 𝒱₀ (tile d L) none) Set.univ (k ⟨⟩) Q) :
    built (F := F) d L T fb R gs
      ⊢ wp frame (wpE (defs₀ (F := F)) 𝒱₀ (tile d L) none) Set.univ
          (Prog.lift (.store posM (Rect.unit (s := S1280) ![b] S16.size inb) w Finset.univ hx hm) >>= k) Q := by
  have hemb : ∀ x : S16.Idx, (posM.access (Rect.unit (s := S1280) ![b] S16.size inb)).emb x = nth 1280 (b + (x 0).val) := fun x =>
    emb_unit (k := 1280) (b := b) (off := ![b]) (size := S16.size) (inb := inb) rfl x
  have hwr : ∀ (fo : Words 1280) (i : Fin 16),
      (posM.access (Rect.unit (s := S1280) ![b] S16.size inb)).write (Elt F) (fo : Buf (Elt F) (posL d L)) w Finset.univ (nth 1280 (b + i.val)) = T (b + i.val) := by
    intro fo i
    have e : (posM.access (Rect.unit (s := S1280) ![b] S16.size inb)).emb (ix1 i : S16.Idx) = nth 1280 (b + i.val) := hemb (ix1 i)
    rw [← e]
    exact (View.write_emb_of_mem _ _ (Finset.mem_univ _)).trans (hw i)
  have hout : ∀ (fo : Words 1280) (n : ℕ), n < 1280 → ¬ (b ≤ n ∧ n < b + 16) →
      (posM.access (Rect.unit (s := S1280) ![b] S16.size inb)).write (Elt F) (fo : Buf (Elt F) (posL d L)) w Finset.univ (nth 1280 n) = fo (nth 1280 n) := by
    intro fo n hn hne
    refine View.write_of_not_mem _ _ _ ?_
    intro hc
    obtain ⟨x, -, hx⟩ := Finset.mem_map.mp hc
    have hx' := hemb x
    have h16 : (x 0).val < 16 := (x 0).isLt
    have := nth_inj (k := 1280) (by omega) hn (hx'.symm.trans hx)
    omega
  show _ ⊢ wp frame (wpE (defs₀ (F := F)) 𝒱₀ (tile d L) none) Set.univ (.op (.store posM (Rect.unit (s := S1280) ![b] S16.size inb) w Finset.univ hx hm) k) Q
  iintro ⟨⟨%fo, %ha, Hp⟩, Hf, HR⟩
  iapply (wp_store (defs := defs₀ (F := F)) 𝒱₀ (tile d L) none Set.univ (Q := Q) (m := posM) (r := Rect.unit (s := S1280) ![b] S16.size inb) (w := w) (Mk := Finset.univ)
    (hx := hx) (hm := hm) (k := k) (S := Finset.univ) (f := (fo : Buf (Elt F) (posL d L))) (Finset.subset_univ _)) $$ Hp
  iintro Hp
  iapply h
  isplitl [Hp]
  · iexists ((posM.access (Rect.unit (s := S1280) ![b] S16.size inb)).write (Elt F) (fo : Buf (Elt F) (posL d L)) w Finset.univ : Words 1280)
    isplitl []
    · ipureintro
      intro b' hb' hlt i hi
      by_cases hc : b ≤ b' + i ∧ b' + i < b + 16
      · have := hwr fo ⟨b' + i - b, by omega⟩
        rwa [show b + (⟨b' + i - b, by omega⟩ : Fin 16).val = b' + i from by show b + (b' + i - b) = b' + i; omega] at this
      · refine (hout fo (b' + i) (by omega) hc).trans ?_
        rcases List.mem_cons.mp hb' with rfl | hmem
        · exact absurd ⟨by omega, by omega⟩ hc
        · exact ha b' hmem hlt i hi
    iexact Hp
  isplitl [Hf]; · iexact Hf
  iexact HR

/-- Storing the group at `b`: from the sixteen words `v` that were read at `b₀`, the positions of one component. -/
theorem store_group {R : sProp 𝕄} {α : Type} {Q : α → sProp 𝕄} {z : ℕ} {g : BitVec 32 → BitVec 32} {v : S16.Idx → BitVec 32} {b b₀ : ℕ} {inb} {w : S16.Idx → BitVec 32} {hx} {hm}
    {k : PUnit → Prog (TpuEff nD τ sig (Elt F) Λ₀ (.scVector (cV L) (jV L))) α}
    (hz : z = 320 ∨ z = 208) (hv : ∀ i : Fin 16, v (ix1 i) = fb (nth 320 (b₀ + i.val)))
    (hb : b + 16 ≤ 1280 ∧ b % 16 = 0 ∧ b % z = b₀)
    (hw : ∀ i : Fin 16, w (ix1 i) = g (v (ix1 i)) + BitVec.ofNat 32 (15000 + 20000 * (b / z)))
    (h : built (F := F) d L (target z g fb) fb R (b :: gs) ⊢ wp frame (wpE (defs₀ (F := F)) 𝒱₀ (tile d L) none) Set.univ (k ⟨⟩) Q) :
    built (F := F) d L (target z g fb) fb R gs
      ⊢ wp frame (wpE (defs₀ (F := F)) 𝒱₀ (tile d L) none) Set.univ
          (Prog.lift (.store posM (Rect.unit (s := S1280) ![b] S16.size inb) w Finset.univ hx hm) >>= k) Q :=
  store_step (F := F) hb.1 (fun i => by rw [target_group hz hb.2.1, hw i, hv i, hb.2.2]) h

/-- When the first `m` groups are stored, the list holds what it is to hold up to there. -/
theorem built_done {R : sProp 𝕄} {α : Type} {Q : α → sProp 𝕄} {m : ℕ} (hm' : m ≤ 80) (hm : ∀ g < m, 16 * g ∈ gs) {x : Prog (TpuEff nD τ sig (Elt F) Λ₀ (.scVector (cV L) (jV L))) α}
    (h : ∀ fo : Words 1280, (∀ n < 16 * m, fo (nth 1280 n) = T n) →
      iprop((posL d L ↦{fullShare} fo) ∗ (fetchL d L ↦{fullShare} fb) ∗ R) ⊢ wp frame (wpE (defs₀ (F := F)) 𝒱₀ (tile d L) none) Set.univ x Q) :
    built (F := F) d L T fb R gs ⊢ wp frame (wpE (defs₀ (F := F)) 𝒱₀ (tile d L) none) Set.univ x Q := by
  iintro ⟨⟨%fo, %ha, Hp⟩, Hf, HR⟩
  iapply (h fo fun n hn => ha.all hm' hm hn)
  isplitl [Hp]; · iexact Hp
  isplitl [Hf]; · iexact Hf
  iexact HR

/-- A program run before another, and a program that only returns. -/
theorem bind_step {α : Type} {Q : α → sProp 𝕄} {β : Type} {A : sProp 𝕄} {x : Prog (TpuEff nD τ sig (Elt F) Λ₀ (.scVector (cV L) (jV L))) β}
    {k : β → Prog (TpuEff nD τ sig (Elt F) Λ₀ (.scVector (cV L) (jV L))) α}
    (h : A ⊢ wp frame (wpE (defs₀ (F := F)) 𝒱₀ (tile d L) none) Set.univ x
      fun a => wp frame (wpE (defs₀ (F := F)) 𝒱₀ (tile d L) none) Set.univ (k a) Q) :
    A ⊢ wp frame (wpE (defs₀ (F := F)) 𝒱₀ (tile d L) none) Set.univ (x >>= k) Q := by
  rw [wp_bind]; exact h

/-- A program that only returns ends where it starts. -/
theorem pure_step {α : Type} {Q : α → sProp 𝕄} {A : sProp 𝕄} {a : α} (h : A ⊢ Q a) :
    A ⊢ wp frame (wpE (defs₀ (F := F)) 𝒱₀ (tile d L) none) Set.univ (pure a) Q :=
  h.trans (le_wp_ret _ _ _ _ _)

end Steps

end Cert.Proof.Boxes
-- ==== Proof.Copies.lean ====
/-
  A tile's copies.  The box numbers come from the packed input in one copy; each component's gathered words go to the
  output in one copy.  The rows of a tile's lists are regrouped here as the copies take them.
-/
module

public import proofs.«01_k».proof.Proof.Build

@[expose] public section

noncomputable section

namespace Cert.Proof.Boxes

open Cert.Kernel Cert.Kernel.Gen Cert.Streams

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

section Copies

variable (d : Dev nD) (L : grid0.Coords)

/-! ## One copy -/

section Copy

variable {sp sp' : Space} {s : Shape} {src : Memref sig .scVector sp s .i32} {dst : Memref sig .scVector sp' s .i32} {sem : DmaSem sig}

/-- What a copy on a semaphore of the tile brings back: the target written, and the source. -/
abbrev copied (src : Memref sig .scVector sp s .i32) (dst : Memref sig .scVector sp' s .i32) (qs : PosShare TreeShare) (fs : Buf (Elt F) (src.view.loc (tile d L)))
    (Sd : Finset (Idx (dst.view.loc (tile d L)))) (fd : Buf (Elt F) (dst.view.loc (tile d L))) : sProp 𝕄 :=
  iprop((dst.view.loc (tile d L) ↦[Sd]{fullShare} (dst.view.write (Elt F) fd (src.view.read (Elt F) fs) Finset.univ))
    ∗ (src.view.loc (tile d L) ↦[src.view.set]{qs} fs))

variable {d L}

/-- A copy on a free semaphore of the tile takes the source and the target, and is then in flight. -/
theorem copy_start {α : Type} {Q : α → sProp 𝕄} {qs : PosShare TreeShare} {fs : Buf (Elt F) (src.view.loc (tile d L))}
    {Sd : Finset (Idx (dst.view.loc (tile d L)))} {fd : Buf (Elt F) (dst.view.loc (tile d L))} {N : ℕ}
    (hN : dst.view.dmaCredit = N) (hN0 : 0 < N) (hSd : dst.view.set ⊆ Sd) {hsrc hdst hsem}
    {k : PUnit → Prog (TpuEff nD τ sig (Elt F) Λ₀ (.scVector (cV L) (jV L))) α} :
    iprop((src.view.loc (tile d L) ↦[src.view.set]{qs} fs) ∗ (dst.view.loc (tile d L) ↦[Sd]{fullShare} fd) ∗ free (F := F) d L sem)
      ⊢ iprop((Transfers.Flight countersEmb (tile d L) (.dma sem) (default : HIx 1) N (copied (F := F) d L src dst qs fs Sd fd)
            -∗ wp frame (wpE (defs₀ (F := F)) 𝒱₀ (tile d L) none) Set.univ (k ⟨⟩) Q)
          -∗ wp frame (wpE (defs₀ (F := F)) 𝒱₀ (tile d L) none) Set.univ
            (Prog.lift (.enqueueDma src (.here dst) (.dma sem) hsrc hdst hsem) >>= k) Q) := by
  show _ ⊢ iprop(_ -∗ wp frame (wpE (defs₀ (F := F)) 𝒱₀ (tile d L) none) Set.univ (.op (.enqueueDmaAs src (.here dst) .same (.dma sem) hsrc hdst hsem) k) Q)
  exact Transfers.wp_dmaLocal (defs := defs₀ (F := F)) countersEmb 𝒱₀ (tile d L) none (src := src) (via := .same) (dst := dst) (sm := .dma sem)
    (hsrc := hsrc) (hdst := hdst) (hsem := hsem) (k := k) (q := qs) (fs := fs) (Sd := Sd) (fd := fd) (default : HIx 1) N hN hN0 hSd

/-- Waiting for the copy gives back what it brings, and the semaphore free. -/
theorem copy_wait {α : Type} {Q : α → sProp 𝕄} {D : sProp 𝕄} {N : ℕ} (hN : dst.view.dmaCredit = N) {hsrc hdst}
    {O : CellTallies nD τ sig (HIx 1)} {W : Waits sig (HIx 1)} {k : PUnit → Prog (TpuEff nD τ sig (Elt F) Λ₀ (.scVector (cV L) (jV L))) α} :
    iprop(Transfers.Flight countersEmb (tile d L) (.dma sem) (default : HIx 1) N D ∗ owes (tile d L) O W ∗ MayWait (tile d L) (.dma sem) (default : HIx 1) O)
      ⊢ iprop((iprop(D ∗ free (F := F) d L sem ∗ owes (tile d L) O (insert (SemLoc.dma sem, (default : HIx 1)) W))
            -∗ wp frame (wpE (defs₀ (F := F)) 𝒱₀ (tile d L) none) Set.univ (k ⟨⟩) Q)
          -∗ wp frame (wpE (defs₀ (F := F)) 𝒱₀ (tile d L) none) Set.univ (Prog.lift (.waitDma2 sem src dst hsrc hdst) >>= k) Q) := by
  show _ ⊢ iprop(_ -∗ wp frame (wpE (defs₀ (F := F)) 𝒱₀ (tile d L) none) Set.univ (.op (.waitDma2 sem src dst hsrc hdst) k) Q)
  exact Transfers.wp_waitLocalO countersEmb 𝒱₀ (tile d L) none (default : HIx 1) hN

end Copy

/-! ## The fetch -/

/-- The window of `o` words at `off` of the packed input. -/
abbrev fromP (off : Fin 1 → ℕ) (o : ℕ) (inb : ∀ a, off a + (⟨1, ![o]⟩ : Shape).size a ≤ S95000.size a) : Memref sig .scVector .hbm ⟨1, ![o]⟩ .i32 :=
  packedM.slice (Rect.unit (s := S95000) off (⟨1, ![o]⟩ : Shape).size inb) (fun _ => rfl)

variable {d L}

/-- FETCHING `o` words from `p` on: the copy to the entries of `M`, and its wait. -/
theorem fetch_step {α : Type} {Q : α → sProp 𝕄} {R : sProp 𝕄} {o p : ℕ} {M : Memref sig .scVector .vmem ⟨1, ![o]⟩ .i32} {sem : DmaSem sig}
    {off : Fin 1 → ℕ} {inb} (hoff : off 0 = p) (h0 : 0 < o) (hN : M.view.dmaCredit = o * unit1)
    {q : PosShare TreeShare} {fp : Words 95000} {f₀ : Buf (Elt F) (M.view.loc (tile d L))}
    {O : CellTallies nD τ sig (HIx 1)} {W : Waits sig (HIx 1)} {hsrc hdst hsem hsrc' hdst'}
    {k : PUnit → Prog (TpuEff nD τ sig (Elt F) Λ₀ (.scVector (cV L) (jV L))) α}
    (h : ∀ fb : Buf (Elt F) (M.view.loc (tile d L)), (∀ x : (⟨1, ![o]⟩ : Shape).Idx, M.view.read (Elt F) fb x = fp (nth 95000 (p + (x 0).val))) →
      iprop((M.view.loc (tile d L) ↦{fullShare} fb) ∗ (pLoc d ↦{q} fp) ∗ free (F := F) d L sem ∗ owes (tile d L) O (insert (SemLoc.dma sem, (default : HIx 1)) W)
          ∗ Transfers.MayWaits (tile d L) (default : HIx 1) O ∗ R)
        ⊢ wp frame (wpE (defs₀ (F := F)) 𝒱₀ (tile d L) none) Set.univ (k ⟨⟩) Q) :
    iprop((M.view.loc (tile d L) ↦{fullShare} f₀) ∗ (pLoc d ↦{q} fp) ∗ free (F := F) d L sem ∗ owes (tile d L) O W
        ∗ Transfers.MayWaits (tile d L) (default : HIx 1) O ∗ R)
      ⊢ wp frame (wpE (defs₀ (F := F)) 𝒱₀ (tile d L) none) Set.univ
          (Prog.lift (.enqueueDma (fromP off o inb) (.here M) (.dma sem) hsrc hdst hsem)
            >>= fun _ => Prog.lift (.waitDma2 sem (fromP off o inb) M hsrc' hdst') >>= k) Q := by
  have hk := h (M.view.write (Elt F) f₀ ((fromP off o inb).view.read (Elt F) (fp : Buf (Elt F) (pLoc d))) Finset.univ) (fun x => by
    refine (congrFun (View.read_write_univ _ _) x).trans ?_
    refine (View.read_apply _ _).trans (congrArg fp ?_)
    exact emb_unit (k := 95000) hoff x)
  have hsplit : (pLoc d ↦{q} fp : sProp 𝕄) ⊣⊢ iprop((pLoc d ↦[(fromP off o inb).view.set]{q} fp) ∗ pLoc d ↦[Finset.univ \ (fromP off o inb).view.set]{q} fp) :=
    pointsTo_split_subset (Finset.subset_univ _)
  iintro ⟨HM, HP, Hs, HO, #Hmw, HR⟩
  ihave HPs := hsplit.1 $$ HP
  icases HPs with ⟨HPs, HPr⟩
  iapply (copy_start (F := F) (d := d) (L := L) (src := fromP off o inb) (dst := M) (sem := sem) (qs := q) (fs := (fp : Buf (Elt F) (pLoc d)))
    (Sd := Finset.univ) (fd := f₀) hN (Nat.mul_pos h0 (by decide)) (Finset.subset_univ _)) $$ [HPs HM Hs]
  · isplitl [HPs]; · iexact HPs
    isplitl [HM]; · iexact HM
    iexact Hs
  iintro Hfl
  iapply (copy_wait (F := F) (d := d) (L := L) (sem := sem) hN) $$ [Hfl HO]
  · isplitl [Hfl]; · iexact Hfl
    isplitl [HO]; · iexact HO
    iapply (Transfers.MayWaits.elim (SemLoc.dma sem)) $$ Hmw
  iintro ⟨⟨HM, HPs⟩, Hs, HO⟩
  ihave HP := hsplit.2 $$ [HPs HPr]
  · isplitl [HPs] <;> iassumption
  iapply hk
  isplitl [HM]; · iexact HM
  isplitl [HP]; · iexact HP
  isplitl [Hs]; · iexact Hs
  isplitl [HO]; · iexact HO
  isplitl []; · iexact Hmw
  iexact HR

/-! ## Rows, regrouped -/

section Rows

variable (d L) (q : PosShare TreeShare) (fp : Words 95000) (fo fv : Words 1280)

/-- What is left of the rows `b` to `b + o - 1` without their gathered words. -/
abbrev rest (b o : ℕ) : sProp 𝕄 :=
  iprop((posL d L ↦[win 1280 b o]{fullShare} fo) ∗ bigSep (Finset.Ico b (b + o)) fun n => pLoc d ↦{cut q n} fp)

/-- A run of rows is the window of the gathered words and the rest. -/
theorem rows_open {b o : ℕ} (h : b + o ≤ 1280) :
    (bigSep (Finset.Ico b (b + o)) (row (F := F) d L q fp fo fv))
      = iprop((valL d L ↦[win 1280 b o]{fullShare} fv) ∗ rest (F := F) d L q fp fo b o) := by
  have hg : ∀ m n, m < b + o → n < b + o → nth 1280 m = nth 1280 n → m = n := fun m n hm hn => nth_inj (by omega) (by omega)
  have hv := pts_run (F := F) (ℓ := valL d L) (q := fullShare) (f := fv) (b := b) (nth 1280) hg
  have ho := pts_run (F := F) (ℓ := posL d L) (q := fullShare) (f := fo) (b := b) (nth 1280) hg
  unfold rest win
  rw [hv, ho]
  refine (bigSep_sep' _ _ _).trans ((congrArg (fun X => iprop(X ∗ _)) (bigSep_sep' _ _ _)).trans ?_)
  exact Entails.antisymm BI.sep_assoc BI.sep_assoc'

/-- Only a row's own entry of the gathered words matters. -/
theorem rows_congr {fv' : Words 1280} {b e : ℕ} (h : ∀ n, b ≤ n → n < e → fv (nth 1280 n) = fv' (nth 1280 n)) :
    (bigSep (Finset.Ico b e) (row (F := F) d L q fp fo fv)) ⊢ bigSep (Finset.Ico b e) (row (F := F) d L q fp fo fv') :=
  BI.bigSep_mono fun n hn => sep_mono (sep_mono (Entails.of_eq (pointsTo_congr fun i hi => by
    rw [Finset.mem_singleton.mp hi]; exact h n (Finset.mem_Ico.mp hn).1 (Finset.mem_Ico.mp hn).2)) .rfl) .rfl

/-- All the rows are all of the gathered words, the whole list and the share of the packed input. -/
theorem rows_all : todo (F := F) d L q fp fo fv 0
    = iprop((valL d L ↦{fullShare} fv) ∗ (posL d L ↦{fullShare} fo) ∗ (pLoc d ↦{q} fp)) := by
  unfold todo
  rw [show Finset.Ico 0 1280 = Finset.Ico 0 (0 + 1280) from rfl, rows_open (F := F) d L q fp fo fv (by omega)]
  unfold rest
  rw [run_fin, win_all]
  have hp := pointsTo_piecesOf (Val := Elt F) (Ix := HIx 1) (Name := ℕ) (U := UU) (Lvl := ℕ) (ℓ := pLoc d) Finset.univ (fp : Buf (Elt F) (pLoc d)) (o := 1280) (by decide) q
  have e : ∀ k : Fin 1280, cut q (0 + k.val) = pieceOf q 1280 (by decide) k := fun k => by
    have h : (⟨(0 + k.val) % 1280, Nat.mod_lt _ (by decide)⟩ : Fin 1280) = k := by
      refine Fin.ext ?_
      rw [Fin.val_mk, Nat.zero_add]
      exact Nat.mod_eq_of_lt k.isLt
    exact congrArg (pieceOf q 1280 (by decide)) h
  refine congrArg (fun X => iprop(_ ∗ _ ∗ X)) ((BI.bigSep_congr fun k _ => ?_).trans hp.symm)
  rw [e k]

end Rows

/-! ## The copies to the output -/

section Out

variable (d L)

/-- The window of `o` words at `off` of the output. -/
abbrev toO (off : Fin 1 → ℕ) (o : ℕ) (inb : ∀ a, off a + (⟨1, ![o]⟩ : Shape).size a ≤ S20000.size a) : Memref sig .scVector .hbm ⟨1, ![o]⟩ .i32 :=
  outM.slice (Rect.unit (s := S20000) off (⟨1, ![o]⟩ : Shape).size inb) (fun _ => rfl)

/-- A copy to the output under way: it brings back the output's window holding `vo'`, and the window of the gathered words. -/
abbrev outFlight (sem : DmaSem sig) (N e b o : ℕ) (vo' : Words 20000) (fv : Words 1280) : sProp 𝕄 :=
  Transfers.Flight countersEmb (tile d L) (.dma sem) (default : HIx 1) N
    iprop((oLoc d ↦[win 20000 e o]{fullShare} vo') ∗ (valL d L ↦[win 1280 b o]{fullShare} fv))

variable {d L}

/-- COPYING `o` gathered words from `b` to the output from `e`, where the output is to hold `vo'`. -/
theorem out_start {α : Type} {Q : α → sProp 𝕄} {sem : DmaSem sig} {N e b o : ℕ} {off : Fin 1 → ℕ} {inb inb'} (hoff : off 0 = e)
    (he : e + o ≤ 20000) (hb : b + o ≤ 1280) {vo vo' : Words 20000} {fv : Words 1280}
    (hN : (toO off o inb).view.dmaCredit = N) (hN0 : 0 < N)
    (hval : ∀ n < o, vo' (nth 20000 (e + n)) = fv (nth 1280 (b + n))) {hsrc hdst hsem}
    {k : PUnit → Prog (TpuEff nD τ sig (Elt F) Λ₀ (.scVector (cV L) (jV L))) α} :
    iprop((valL d L ↦[win 1280 b o]{fullShare} fv) ∗ (oLoc d ↦[win 20000 e o]{fullShare} vo) ∗ free (F := F) d L sem)
      ⊢ iprop((outFlight (F := F) d L sem N e b o vo' fv -∗ wp frame (wpE (defs₀ (F := F)) 𝒱₀ (tile d L) none) Set.univ (k ⟨⟩) Q)
          -∗ wp frame (wpE (defs₀ (F := F)) 𝒱₀ (tile d L) none) Set.univ
            (Prog.lift (.enqueueDma (sub valM b o inb') (.here (toO off o inb)) (.dma sem) hsrc hdst hsem) >>= k) Q) := by
  have hs : (sub valM b o inb').view.set = win 1280 b o :=
    (View.set_slice_whole cc0_scratch2 _).trans (set_unit (k := 1280) (b := b) (o := o) rfl rfl hb)
  have hd : (toO off o inb).view.set = win 20000 e o :=
    (View.set_slice_whole main_v7_scv _).trans (set_unit (k := 20000) (b := e) (o := o) hoff rfl he)
  have hw : (oLoc d ↦[win 20000 e o]{fullShare} ((toO off o inb).view.write (Elt F) (vo : Buf (Elt F) (oLoc d))
        ((sub valM b o inb').view.read (Elt F) (fv : Buf (Elt F) (valL d L))) Finset.univ) : sProp 𝕄)
      = (oLoc d ↦[win 20000 e o]{fullShare} vo') := pointsTo_congr fun i hi => by
    rw [← hd] at hi
    obtain ⟨x, -, rfl⟩ := Finset.mem_map.mp hi
    have hx : (x 0).val < o := (x 0).isLt
    have hemb : (toO off o inb).view.emb x = nth 20000 (e + (x 0).val) := emb_unit (k := 20000) hoff x
    refine (View.write_emb_of_mem _ _ (Finset.mem_univ _)).trans ?_
    rw [hemb, hval _ hx]
    have hsrc : (sub valM b o inb').view.emb x = nth 1280 (b + (x 0).val) := emb_unit (k := 1280) (b := b) (off := ![b]) rfl x
    have hread : (sub valM b o inb').view.read (Elt F) (fv : Buf (Elt F) (valL d L)) x = fv (nth 1280 (b + (x 0).val)) :=
      (View.read_apply _ _).trans (congrArg fv hsrc)
    exact hread
  have hst := copy_start (F := F) (d := d) (L := L) (Q := Q) (src := sub valM b o inb') (dst := toO off o inb) (sem := sem) (qs := fullShare)
    (fs := (fv : Buf (Elt F) (valL d L))) (Sd := win 20000 e o) (fd := (vo : Buf (Elt F) (oLoc d))) (N := N) hN hN0 hd.le
    (hsrc := hsrc) (hdst := hdst) (hsem := hsem) (k := k)
  have hD : copied (F := F) d L (sub valM b o inb') (toO off o inb) fullShare (fv : Buf (Elt F) (valL d L)) (win 20000 e o) (vo : Buf (Elt F) (oLoc d))
      = iprop((oLoc d ↦[win 20000 e o]{fullShare} vo') ∗ (valL d L ↦[win 1280 b o]{fullShare} fv)) :=
    congrArg₂ (fun X Y => iprop(X ∗ Y)) hw (by rw [hs])
  rw [hD] at hst
  refine Entails.trans (sep_mono (Entails.of_eq (by rw [hs])) .rfl) hst

/-- WAITING for it. -/
theorem out_wait {α : Type} {Q : α → sProp 𝕄} {sem : DmaSem sig} {N e b o : ℕ} {off : Fin 1 → ℕ} {inb inb'} {vo' : Words 20000} {fv : Words 1280}
    (hN : (toO off o inb).view.dmaCredit = N) {hsrc hdst}
    {O : CellTallies nD τ sig (HIx 1)} {W : Waits sig (HIx 1)} {k : PUnit → Prog (TpuEff nD τ sig (Elt F) Λ₀ (.scVector (cV L) (jV L))) α} :
    iprop(outFlight (F := F) d L sem N e b o vo' fv ∗ owes (tile d L) O W ∗ MayWait (tile d L) (.dma sem) (default : HIx 1) O)
      ⊢ iprop((iprop(((oLoc d ↦[win 20000 e o]{fullShare} vo') ∗ (valL d L ↦[win 1280 b o]{fullShare} fv)) ∗ free (F := F) d L sem
              ∗ owes (tile d L) O (insert (SemLoc.dma sem, (default : HIx 1)) W))
            -∗ wp frame (wpE (defs₀ (F := F)) 𝒱₀ (tile d L) none) Set.univ (k ⟨⟩) Q)
          -∗ wp frame (wpE (defs₀ (F := F)) 𝒱₀ (tile d L) none) Set.univ
            (Prog.lift (.waitDma2 sem (sub valM b o inb') (toO off o inb) hsrc hdst) >>= k) Q) :=
  copy_wait (F := F) (d := d) (L := L) (sem := sem) hN

/-- A copy of 320 words to the output credits 320 units. -/
theorem out_credit320 {off : Fin 1 → ℕ} {inb} : (toO off 320 inb).view.dmaCredit = 320 * unit1 :=
  (by decide : (toO ![0] 320 (by decide)).view.dmaCredit = 320 * unit1)
/-- A copy of 200 words to the output credits 200 units. -/
theorem out_credit200 {off : Fin 1 → ℕ} {inb} : (toO off 200 inb).view.dmaCredit = 200 * unit1 :=
  (by decide : (toO ![0] 200 (by decide)).view.dmaCredit = 200 * unit1)

end Out

/-! ## A tile's part of the output -/

/-- A tile's part of the output is a window of every component: `o` rows from row `320 w`. -/
theorem part_split {w o : ℕ} (h : (w < 15 ∧ o = 320) ∨ (w = 15 ∧ o = 200)) (f : Words 20000) :
    (oLoc d ↦[part w]{fullShare} f : sProp 𝕄)
      = iprop((oLoc d ↦[win 20000 (320 * w) o]{fullShare} f) ∗ (oLoc d ↦[win 20000 (5000 + 320 * w) o]{fullShare} f)
        ∗ (oLoc d ↦[win 20000 (10000 + 320 * w) o]{fullShare} f) ∗ (oLoc d ↦[win 20000 (15000 + 320 * w) o]{fullShare} f)) := by
  have hm : ∀ c < 4, ∀ i : S20000.Idx, i ∈ win 20000 (5000 * c + 320 * w) o ↔ 5000 * c + 320 * w ≤ (i 0).val ∧ (i 0).val < 5000 * c + 320 * w + o := fun c hc i =>
    mem_win (by omega) i
  have hall : part w = (Finset.univ : Finset (Fin 4)).biUnion fun c => win 20000 (5000 * c.val + 320 * w) o := by
    ext i
    have hi : (i 0).val < 20000 := (i 0).isLt
    rw [Finset.mem_biUnion]
    unfold part
    rw [Finset.mem_filter]
    constructor
    · rintro ⟨-, h'⟩
      refine ⟨⟨(i 0).val / 5000, by omega⟩, Finset.mem_univ _, (hm _ (by show (i 0).val / 5000 < 4; omega) i).mpr ?_⟩
      show 5000 * ((i 0).val / 5000) + 320 * w ≤ (i 0).val ∧ (i 0).val < 5000 * ((i 0).val / 5000) + 320 * w + o
      omega
    · rintro ⟨c, -, hc⟩
      have h4 := c.isLt
      have := (hm _ h4 i).mp hc
      refine ⟨Finset.mem_univ _, ?_⟩
      omega
  rw [hall, pointsTo_biUnion]
  · rw [show (Finset.univ : Finset (Fin 4)) = {0, 1, 2, 3} from by decide]
    rw [SparseCore.bigSep_insert' (by decide), SparseCore.bigSep_insert' (by decide), SparseCore.bigSep_insert' (by decide), bigSep_singleton]
    rw [show (5000 * (0 : Fin 4).val + 320 * w) = 320 * w from Nat.zero_add _]
    rfl
  · intro a _ b _ hne
    rw [Finset.disjoint_left]
    intro i hi hi'
    have h1 := (hm _ a.isLt i).mp hi
    have h2 := (hm _ b.isLt i).mp hi'
    have : a.val ≠ b.val := fun h => hne (Fin.ext h)
    omega

/-! ## What a tile has -/

section Has

variable (d L)

/-- What a tile has at its start and, but for the output's contents, at its end. -/
abbrev tileHas (q : PosShare TreeShare) (fp : Words 95000) (vo : Words 20000) : sProp 𝕄 :=
  iprop((pLoc d ↦{q} fp) ∗ (oLoc d ↦[part (L 1).val]{fullShare} vo) ∗ (∃ f, fetchL d L ↦{fullShare} f) ∗ (∃ f, posL d L ↦{fullShare} f)
    ∗ (∃ f, valL d L ↦{fullShare} f) ∗ bigSep Finset.univ fun k : Fin 18 => free (F := F) d L k)

/-- What it has once the box numbers are fetched, but for its list and its fetched words. -/
abbrev tileRest (q : PosShare TreeShare) (fp : Words 95000) (vo : Words 20000) (O : CellTallies nD τ sig (HIx 1)) (W : Waits sig (HIx 1)) : sProp 𝕄 :=
  iprop((pLoc d ↦{q} fp) ∗ (oLoc d ↦[part (L 1).val]{fullShare} vo) ∗ (∃ f, valL d L ↦{fullShare} f)
    ∗ (bigSep Finset.univ fun k : Fin 18 => free (F := F) d L k) ∗ owes (tile d L) O W ∗ Transfers.MayWaits (tile d L) (default : HIx 1) O)

variable {d L}

/-- The fetch, of all that a tile has. -/
theorem tile_fetch {α : Type} {Q : α → sProp 𝕄} {o p : ℕ} {M : Memref sig .scVector .vmem ⟨1, ![o]⟩ .i32} {sem : DmaSem sig}
    {off : Fin 1 → ℕ} {inb} (hoff : off 0 = p) (h0 : 0 < o) (hN : M.view.dmaCredit = o * unit1)
    {q : PosShare TreeShare} {fp : Words 95000} {vo : Words 20000}
    {O : CellTallies nD τ sig (HIx 1)} {W : Waits sig (HIx 1)} {hsrc hdst hsem hsrc' hdst'}
    {k : PUnit → Prog (TpuEff nD τ sig (Elt F) Λ₀ (.scVector (cV L) (jV L))) α}
    (h : ∀ fb : Buf (Elt F) (M.view.loc (tile d L)), (∀ x : (⟨1, ![o]⟩ : Shape).Idx, M.view.read (Elt F) fb x = fp (nth 95000 (p + (x 0).val))) →
      iprop((∃ f, posL d L ↦{fullShare} f) ∗ (M.view.loc (tile d L) ↦{fullShare} fb)
          ∗ tileRest (F := F) d L q fp vo O (insert (SemLoc.dma sem, (default : HIx 1)) W))
        ⊢ wp frame (wpE (defs₀ (F := F)) 𝒱₀ (tile d L) none) Set.univ (k ⟨⟩) Q) :
    iprop(((pLoc d ↦{q} fp) ∗ (oLoc d ↦[part (L 1).val]{fullShare} vo) ∗ (∃ f, M.view.loc (tile d L) ↦{fullShare} f) ∗ (∃ f, posL d L ↦{fullShare} f)
        ∗ (∃ f, valL d L ↦{fullShare} f) ∗ bigSep Finset.univ fun k : Fin 18 => free (F := F) d L k)
        ∗ owes (tile d L) O W ∗ Transfers.MayWaits (tile d L) (default : HIx 1) O)
      ⊢ wp frame (wpE (defs₀ (F := F)) 𝒱₀ (tile d L) none) Set.univ
          (Prog.lift (.enqueueDma (fromP off o inb) (.here M) (.dma sem) hsrc hdst hsem)
            >>= fun _ => Prog.lift (.waitDma2 sem (fromP off o inb) M hsrc' hdst') >>= k) Q := by
  have he : (bigSep Finset.univ fun k : Fin 18 => free (F := F) d L k)
      = iprop(free (F := F) d L sem ∗ bigSep (Finset.univ.erase sem) fun k : Fin 18 => free (F := F) d L k) :=
    SparseCore.bigSep_erase' (Finset.mem_univ sem)
  have hf : ∀ f, _ := fun f => fetch_step (F := F) (d := d) (L := L) (Q := Q) (M := M) (sem := sem) (off := off) (inb := inb) hoff h0 hN (q := q) (fp := fp) (f₀ := f) (O := O) (W := W)
    (hsrc := hsrc) (hdst := hdst) (hsem := hsem) (hsrc' := hsrc') (hdst' := hdst') (k := k)
    (R := iprop((oLoc d ↦[part (L 1).val]{fullShare} vo) ∗ (∃ f, posL d L ↦{fullShare} f)
        ∗ (∃ f, valL d L ↦{fullShare} f) ∗ bigSep (Finset.univ.erase sem) fun k : Fin 18 => free (F := F) d L k)) (fun fb hfb => by
      refine BIBase.Entails.trans ?_ (h fb hfb)
      unfold tileRest
      rw [he]
      iintro ⟨HM, HP, Hs, HO, Hmw, Ho, Hp, Hv, Hss⟩
      isplitl [Hp]; · iexact Hp
      isplitl [HM]; · iexact HM
      isplitl [HP]; · iexact HP
      isplitl [Ho]; · iexact Ho
      isplitl [Hv]; · iexact Hv
      isplitl [Hs Hss]
      · isplitl [Hs]; · iexact Hs
        iexact Hss
      isplitl [HO]; · iexact HO
      iexact Hmw)
  rw [he]
  iintro ⟨⟨HP, Ho, ⟨%f, HM⟩, Hp, Hv, Hs, Hss⟩, HO, Hmw⟩
  iapply (hf f)
  isplitl [HM]; · iexact HM
  isplitl [HP]; · iexact HP
  isplitl [Hs]; · iexact Hs
  isplitl [HO]; · iexact HO
  isplitl [Hmw]; · iexact Hmw
  isplitl [Ho]; · iexact Ho
  isplitl [Hp]; · iexact Hp
  isplitl [Hv]; · iexact Hv
  iexact Hss

/-- A list of which nothing is stored yet. -/
theorem built_nil {T : ℕ → BitVec 32} {fb : Words 320} {R : sProp 𝕄} :
    iprop((∃ f, posL d L ↦{fullShare} f) ∗ (fetchL d L ↦{fullShare} fb) ∗ R) ⊢ built (F := F) d L T fb R [] := by
  iintro ⟨⟨%f, Hp⟩, Hf, HR⟩
  isplitl [Hp]
  · iexists f
    isplitl []
    · ipureintro; intro b hb; exact absurd hb List.not_mem_nil
    iexact Hp
  isplitl [Hf]; · iexact Hf
  iexact HR

end Has

end Copies

end Cert.Proof.Boxes
-- ==== Proof.Steps.lean ====
/-
  The steps of a tile after its list is built, on rows: the end of a chunk's gathers, and the copy of a chunk to the
  output.
-/
module

public import proofs.«01_k».proof.Proof.Copies

@[expose] public section

noncomputable section

namespace Cert.Proof.Boxes

open Cert.Kernel Cert.Kernel.Gen Cert.Streams

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- The kernel on a tile, at the call's operands. -/
abbrev kernelAt (L : grid0.Coords) : Prog (TpuEff nD τ sig (Elt F) Λ₀ (.scVector (cV L) (jV L))) PUnit :=
  cc0_gather (F := F) L packedM (Memref.isWhole_whole _) outM (Memref.isWhole_whole _) fetchM (Memref.isWhole_whole _) posM (Memref.isWhole_whole _) valM (Memref.isWhole_whole _)
    cc0_scratch3 cc0_scratch4 cc0_scratch5 cc0_scratch6 cc0_scratch7 cc0_scratch8 cc0_scratch9 cc0_scratch10
    cc0_scoped0 cc0_scoped1 cc0_scoped2 cc0_scoped3 cc0_scoped4 cc0_scoped5 cc0_scoped6 cc0_scoped7 cc0_scoped8 cc0_scoped9

/-- An output entry `5000 c + r` the kernel leaves, by the box number in row `r`. -/
theorem OUT_entry (fp : Words 95000) {c r : ℕ} (hc : c < 4) (hr : r < 5000) :
    OUT fp (nth 20000 (5000 * c + r)) = fp (nth 95000 (15000 + 20000 * c + (fp (nth 95000 (10000 + r))).toNat)) := by
  unfold OUT
  rw [nth_val (show 5000 * c + r < 20000 by omega), show (5000 * c + r) / 5000 = c by omega, show (5000 * c + r) % 5000 = r by omega]

/-- A position in the list whose box number is in row `r` gathers the output entry `5000 c + r`. -/
theorem gathered_entry {fp : Words 95000} {fo : Words 1280} {c r n : ℕ} (hc : c < 4) (hr : r < 5000)
    (h : (fo (nth 1280 n)).toNat = 15000 + 20000 * c + (fp (nth 95000 (10000 + r))).toNat) :
    OUT fp (nth 20000 (5000 * c + r)) = gathered fp fo (nth 1280 n) := by
  rw [OUT_entry fp hc hr]
  unfold gathered
  rw [h]

/-- One more wait at the kernel's own index keeps the waits as they may be. -/
theorem waits_more {W W' : Waits sig (HIx 1)} {s : SemLoc sig} (h : ∀ p ∈ W', p ∈ W ∨ p.2 = none) :
    ∀ p ∈ insert (s, (default : HIx 1)) W', p ∈ W ∨ p.2 = none := fun p hp => by
  rcases Finset.mem_insert.mp hp with rfl | hp
  · exact .inr rfl
  · exact h p hp

/-- A number past the end of an array names the entry it wraps around to. -/
theorem nth_mod {k : ℕ} [NeZero k] (n : ℕ) : nth k (n % k) = nth k n := by
  unfold nth
  congr 2
  exact Nat.mod_mod n k

section Steps

variable {d : Dev nD} {L : grid0.Coords} {q : PosShare TreeShare} {fp : Words 95000} {fo fv : Words 1280}

/-- A program that returns at once. -/
theorem pure_intro {α : Type} {Q : α → sProp 𝕄} {a : α} :
    Q a ⊢ wp frame (wpE (defs₀ (F := F)) 𝒱₀ (tile d L) none) Set.univ (pure a) Q := pure_step .rfl

/-- A program, then what follows. -/
theorem bind_intro {α β : Type} {Q : β → sProp 𝕄} {x : Prog (TpuEff nD τ sig (Elt F) Λ₀ (.scVector (cV L) (jV L))) α}
    {k : α → Prog (TpuEff nD τ sig (Elt F) Λ₀ (.scVector (cV L) (jV L))) β} :
    (wp frame (wpE (defs₀ (F := F)) 𝒱₀ (tile d L) none) Set.univ x fun a => wp frame (wpE (defs₀ (F := F)) 𝒱₀ (tile d L) none) Set.univ (k a) Q)
      ⊢ wp frame (wpE (defs₀ (F := F)) 𝒱₀ (tile d L) none) Set.univ (x >>= k) Q := bind_step .rfl

/-- Waiting for a gather, by the right to wait on any semaphore. -/
theorem wait_any {α : Type} {Q : α → sProp 𝕄} {b o base n j u : ℕ} {sem : DmaSem sig} (hu : u + o * unit1 ≤ unit1 * j) {inb}
    (hcr : (sub valM b o inb).view.dmaCredit = o * unit1)
    {hsrc hdst} {O : CellTallies nD τ sig (HIx 1)} {W : Waits sig (HIx 1)} {k : PUnit → Prog (TpuEff nD τ sig (Elt F) Λ₀ (.scVector (cV L) (jV L))) α} :
    iprop(batch (F := F) d L q fp fo sem base n j u ∗ owes (tile d L) O W ∗ Transfers.MayWaits (tile d L) (default : HIx 1) O)
      ⊢ iprop((iprop(batch (F := F) d L q fp fo sem base n j (u + o * unit1) ∗ owes (tile d L) O (insert (SemLoc.dma sem, (default : HIx 1)) W))
            -∗ wp frame (wpE (defs₀ (F := F)) 𝒱₀ (tile d L) none) Set.univ (k ⟨⟩) Q)
          -∗ wp frame (wpE (defs₀ (F := F)) 𝒱₀ (tile d L) none) Set.univ
            (SparseCore.waitIndirectGather sem allPacked (sub valM b o inb) hsrc hdst >>= k) Q) :=
  BIBase.Entails.trans (sep_mono .rfl (sep_mono .rfl (Transfers.MayWaits.elim (SemLoc.dma sem)))) (wait_step (F := F) d L q fp fo hu hcr)

/-- The end of a batch whose waits add up. -/
theorem batch_done {sem : DmaSem sig} {base n u : ℕ} (hu : u = unit1 * n) :
    batch (F := F) d L q fp fo sem base n n u
      ⊢ |={Set.univ}=> iprop((bigSep (Finset.Ico base (base + n)) (row (F := F) d L q fp fo (gathered fp fo))) ∗ free (F := F) d L sem) := by
  subst hu
  exact batch_end (F := F) d L q fp fo

/-- The end of a chunk gathered by two neighbouring batches. -/
theorem chunk_done {sem sem' : DmaSem sig} {b m b' m' o u u' : ℕ} (hb : b + m = b') (ho : m + m' = o) (hu : u = unit1 * m) (hu' : u' = unit1 * m') :
    iprop(batch (F := F) d L q fp fo sem b m m u ∗ batch (F := F) d L q fp fo sem' b' m' m' u')
      ⊢ |={Set.univ}=> iprop((bigSep (Finset.Ico b (b + o)) (row (F := F) d L q fp fo (gathered fp fo))) ∗ free (F := F) d L sem ∗ free (F := F) d L sem') := by
  subst hb ho
  iintro ⟨B, B'⟩
  imod (batch_done (F := F) hu) $$ B with ⟨R, S⟩
  imod (batch_done (F := F) hu') $$ B' with ⟨R', S'⟩
  imodintro
  isplitl [R R']
  · rw [run_split _ (show b ≤ b + m by omega) (show b + m ≤ b + (m + m') by omega), show b + (m + m') = b + m + m' by omega]
    isplitl [R] <;> iassumption
  isplitl [S] <;> iassumption

/-- STARTING the copy of a chunk's rows to the output. -/
theorem write_start {α : Type} {Q : α → sProp 𝕄} {sem : DmaSem sig} {e b o : ℕ} {off : Fin 1 → ℕ} {inb inb'} (hoff : off 0 = e)
    (hl : e + o ≤ 20000 ∧ b + o ≤ 1280 ∧ 0 < o) {vo vo' : Words 20000} (hN : (toO off o inb).view.dmaCredit = o * unit1)
    (hval : ∀ n < o, vo' (nth 20000 (e + n)) = fv (nth 1280 (b + n))) {hsrc hdst hsem}
    {k : PUnit → Prog (TpuEff nD τ sig (Elt F) Λ₀ (.scVector (cV L) (jV L))) α} :
    iprop((bigSep (Finset.Ico b (b + o)) (row (F := F) d L q fp fo fv)) ∗ (oLoc d ↦[win 20000 e o]{fullShare} vo) ∗ free (F := F) d L sem)
      ⊢ iprop((iprop(outFlight (F := F) d L sem (o * unit1) e b o vo' fv ∗ rest (F := F) d L q fp fo b o)
            -∗ wp frame (wpE (defs₀ (F := F)) 𝒱₀ (tile d L) none) Set.univ (k ⟨⟩) Q)
          -∗ wp frame (wpE (defs₀ (F := F)) 𝒱₀ (tile d L) none) Set.univ
            (Prog.lift (.enqueueDma (sub valM b o inb') (.here (toO off o inb)) (.dma sem) hsrc hdst hsem) >>= k) Q) := by
  rw [rows_open (F := F) d L q fp fo fv hl.2.1]
  iintro ⟨⟨Hv, Hr⟩, Ho, S⟩
  iintro Hk
  iapply (out_start (F := F) (d := d) (L := L) (vo' := vo') hoff hl.1 hl.2.1 hN (Nat.mul_pos hl.2.2 (by decide)) hval) $$ [Hv Ho S]
  · isplitl [Hv]; · iexact Hv
    isplitl [Ho] <;> iassumption
  iintro Hf
  iapply Hk
  isplitl [Hf] <;> iassumption

/-- WAITING for it. -/
theorem write_wait {α : Type} {Q : α → sProp 𝕄} {sem : DmaSem sig} {e b o : ℕ} {off : Fin 1 → ℕ} {inb inb'} (hb : b + o ≤ 1280) {vo' : Words 20000}
    (hN : (toO off o inb).view.dmaCredit = o * unit1) {hsrc hdst}
    {O : CellTallies nD τ sig (HIx 1)} {W : Waits sig (HIx 1)} {k : PUnit → Prog (TpuEff nD τ sig (Elt F) Λ₀ (.scVector (cV L) (jV L))) α} :
    iprop((outFlight (F := F) d L sem (o * unit1) e b o vo' fv ∗ rest (F := F) d L q fp fo b o) ∗ owes (tile d L) O W ∗ Transfers.MayWaits (tile d L) (default : HIx 1) O)
      ⊢ iprop((iprop((bigSep (Finset.Ico b (b + o)) (row (F := F) d L q fp fo fv)) ∗ (oLoc d ↦[win 20000 e o]{fullShare} vo') ∗ free (F := F) d L sem
              ∗ owes (tile d L) O (insert (SemLoc.dma sem, (default : HIx 1)) W))
            -∗ wp frame (wpE (defs₀ (F := F)) 𝒱₀ (tile d L) none) Set.univ (k ⟨⟩) Q)
          -∗ wp frame (wpE (defs₀ (F := F)) 𝒱₀ (tile d L) none) Set.univ
            (Prog.lift (.waitDma2 sem (sub valM b o inb') (toO off o inb) hsrc hdst) >>= k) Q) := by
  rw [rows_open (F := F) d L q fp fo fv hb]
  iintro ⟨⟨Hf, Hr⟩, HO, Hmw⟩
  iintro Hk
  ihave Hm := (Transfers.MayWaits.elim (SemLoc.dma sem)) $$ Hmw
  iapply (out_wait (F := F) (d := d) (L := L) hN) $$ [Hf HO Hm]
  · isplitl [Hf]; · iexact Hf
    isplitl [HO] <;> iassumption
  iintro ⟨⟨Ho, Hv⟩, S, HO⟩
  iapply Hk
  isplitl [Hv Hr]
  · isplitl [Hv] <;> iassumption
  isplitl [Ho]; · iexact Ho
  isplitl [S] <;> iassumption

/-- Neighbouring rows together. -/
theorem rows_join {b m e : ℕ} (h₁ : b ≤ m) (h₂ : m ≤ e) :
    iprop((bigSep (Finset.Ico b m) (row (F := F) d L q fp fo fv)) ∗ bigSep (Finset.Ico m e) (row (F := F) d L q fp fo fv))
      ⊢ bigSep (Finset.Ico b e) (row (F := F) d L q fp fo fv) := Entails.of_eq (run_split _ h₁ h₂).symm

/-- The last tile's rows: the four chunks of 200 it copies, what lies after each of the first three, and what is left. -/
theorem last_rows : todo (F := F) d L q fp fo fv 0
    = iprop((bigSep (Finset.Ico 0 200) (row (F := F) d L q fp fo fv)) ∗ (bigSep (Finset.Ico 200 208) (row (F := F) d L q fp fo fv))
      ∗ (bigSep (Finset.Ico 208 408) (row (F := F) d L q fp fo fv)) ∗ (bigSep (Finset.Ico 408 416) (row (F := F) d L q fp fo fv))
      ∗ (bigSep (Finset.Ico 416 616) (row (F := F) d L q fp fo fv)) ∗ (bigSep (Finset.Ico 616 624) (row (F := F) d L q fp fo fv))
      ∗ (bigSep (Finset.Ico 624 824) (row (F := F) d L q fp fo fv)) ∗ bigSep (Finset.Ico 824 1280) (row (F := F) d L q fp fo fv)) := by
  unfold todo
  rw [run_split _ (show 0 ≤ 200 by decide) (show 200 ≤ 1280 by decide), run_split _ (show 200 ≤ 208 by decide) (show 208 ≤ 1280 by decide),
    run_split _ (show 208 ≤ 408 by decide) (show 408 ≤ 1280 by decide), run_split _ (show 408 ≤ 416 by decide) (show 416 ≤ 1280 by decide),
    run_split _ (show 416 ≤ 616 by decide) (show 616 ≤ 1280 by decide), run_split _ (show 616 ≤ 624 by decide) (show 624 ≤ 1280 by decide),
    run_split _ (show 624 ≤ 824 by decide) (show 824 ≤ 1280 by decide)]

/-- The fetched words once the first `m` are gathered. -/
def upTo (m : ℕ) (f g : Words 1280) : Words 1280 := fun e => if (e 0).val < m then f e else g e

/-- Gathered rows and rows left as they were are rows of one array. -/
theorem rows_upTo {m : ℕ} (hm : m ≤ 1280) :
    iprop((bigSep (Finset.Ico 0 m) (row (F := F) d L q fp fo (gathered fp fo))) ∗ bigSep (Finset.Ico m 1280) (row (F := F) d L q fp fo fv))
      ⊢ todo (F := F) d L q fp fo (upTo m (gathered fp fo) fv) 0 := by
  have h₁ := rows_congr (F := F) d L q fp fo (gathered fp fo) (fv' := upTo m (gathered fp fo) fv) (b := 0) (e := m) fun n _ hn => by
    unfold upTo; rw [nth_val (by omega), if_pos hn]
  have h₂ := rows_congr (F := F) d L q fp fo fv (fv' := upTo m (gathered fp fo) fv) (b := m) (e := 1280) fun n hn hn' => by
    unfold upTo; rw [nth_val hn', if_neg (by omega)]
  exact BIBase.Entails.trans (BI.sep_mono h₁ h₂) (rows_join (F := F) (Nat.zero_le m) hm)

/-- What a tile has at its end, of all its rows and its semaphores one by one. -/
theorem tile_end {vo : Words 20000} {fb : Words 320} :
    iprop(todo (F := F) d L q fp fo fv 0 ∗ (fetchL d L ↦{fullShare} fb) ∗ (oLoc d ↦[part (L 1).val]{fullShare} vo)
        ∗ bigSep Finset.univ fun k : Fin 18 => free (F := F) d L k) ⊢ tileHas (F := F) d L q fp vo := by
  rw [rows_all (F := F) d L q fp fo fv]
  iintro ⟨⟨Hv, Hp, HP⟩, Hf, Ho, Hs⟩
  isplitl [HP]; · iexact HP
  isplitl [Ho]; · iexact Ho
  isplitl [Hf]; · iexists fb; iexact Hf
  isplitl [Hp]; · iexists fo; iexact Hp
  isplitl [Hv]; · iexists fv; iexact Hv
  iexact Hs

end Steps

end Cert.Proof.Boxes
-- ==== Proof.First.lean ====
/-
  One of the first fifteen tiles.  It fetches its 320 box numbers, builds the list of the 1280 positions, gathers the
  words at them and copies each component's 320 words to the output.
-/
module

public import proofs.«01_k».proof.Proof.Steps

@[expose] public section

noncomputable section

namespace Cert.Proof.Boxes

open Cert.Kernel Cert.Kernel.Gen Cert.Streams

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (d : Dev nD) (L : grid0.Coords)

/-- Where a tile's window of component `c` starts in the output. -/
theorem off_first (c : Fin 4) {e : ℕ} (he : 5000 * c.val + 320 * (L 1).val = e) : k0_off2 L (BitVec.ofNat 32 (5000 * c.val)) 0 = e := by
  rw [k0_off2_eq L c]
  show 5000 * c.val + 320 * (L 1).val + 320 * (L 0).val = _
  rw [L0, Nat.mul_zero, Nat.add_zero, he]

set_option maxRecDepth 65536 in
set_option maxHeartbeats 400000 in
/-- WHAT EACH OF THE FIRST FIFTEEN TILES DOES: from its part of the output at any contents to its part at the kernel's result. -/
theorem first_run (h : (L 1).val < 15) (q : PosShare TreeShare) (fp : Words 95000) (vo : Words 20000) (hin : InRange fp)
    {O : CellTallies nD τ sig (HIx 1)} {W : Waits sig (HIx 1)} :
    iprop(tileHas (F := F) d L q fp vo ∗ owes (tile d L) O W ∗ Transfers.MayWaits (tile d L) (default : HIx 1) O)
      ⊢ wp frame (wpE (defs₀ (F := F)) 𝒱₀ (tile d L) none) Set.univ (kernelAt (F := F) L)
          fun _ => iprop(tileHas (F := F) d L q fp (OUT fp) ∗ ∃ W', ⌜∀ p ∈ W', p ∈ W ∨ p.2 = none⌝ ∗ owes (tile d L) O W') := by
  have hc : k0_cond1 L = 1#1 := (first_iff L).mpr h
  have hc2 : ¬ k0_cond2 L = 1#1 := fun e => by have := (last_iff L).mp e; omega
  unfold kernelAt
  rw [cc0_gather_eq_skeleton]
  unfold cc0_gather_skel
  rw [dif_pos hc, dif_neg hc2]
  refine bind_step ?_
  rw [k0_part1_eq_skeleton]
  unfold k0_part1_skel
  refine tile_fetch (F := F) (d := d) (L := L) (M := fetchM) (o := 320) (p := 10000 + 320 * (L 1).val) ?_ (by decide) ?_ (fun fb hfb => ?_)
  · rw [k0_off1_eq]; show 320 * (L 1).val + 320 * (L 0).val + 10000 = _; rw [L0]; omega
  · decide
  refine (built_nil (T := target 320 id fb)).trans ?_
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine pure_step ?_
  refine bind_step ?_
  rw [k0_part2_eq_skeleton]; unfold k0_part2_skel
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine pure_step ?_
  refine bind_step ?_
  rw [k0_part3_eq_skeleton]; unfold k0_part3_skel
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine pure_step ?_
  refine bind_step ?_
  rw [k0_part4_eq_skeleton]; unfold k0_part4_skel
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine pure_step ?_
  refine bind_step ?_
  rw [k0_part5_eq_skeleton]; unfold k0_part5_skel
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine pure_step ?_
  refine bind_step ?_
  rw [k0_part6_eq_skeleton]; unfold k0_part6_skel
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine pure_step ?_
  refine bind_step ?_
  rw [k0_part7_eq_skeleton]; unfold k0_part7_skel
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine pure_step ?_
  refine bind_step ?_
  rw [k0_part8_eq_skeleton]; unfold k0_part8_skel
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine pure_step ?_
  refine bind_step ?_
  rw [k0_part9_eq_skeleton]; unfold k0_part9_skel
  repeat first
    | with_reducible refine dead_step (F := F) fun _ => ?_
    | with_reducible refine load_step (F := F) fun v hv => ?_
    | with_reducible refine store_group (F := F) (z := 320) (g := id) (.inl rfl) hv (by decide) (fun i => by with_unfolding_all rfl) ?_
  refine built_done (F := F) (m := 80) (by decide) (by decide) fun fo hfo => ?_
  have hfb' : ∀ n < 320, fb (nth 320 n) = fp (nth 95000 (10000 + 320 * (L 1).val + n)) := fun n hn => by
    have e := hfb (nth 320 n)
    rw [nth_val hn] at e
    exact e
  have hlt : ∀ n, (fb (nth 320 (n % 320))).toNat < 20000 := fun n => by
    rw [hfb' _ (by omega), show 10000 + 320 * (L 1).val + n % 320 = 10000 + (320 * (L 1).val + n % 320) by omega]
    exact hin _ (by omega)
  have hpos : ∀ n < 1280, (fo (nth 1280 n)).toNat = 15000 + 20000 * (n / 320) + (fb (nth 320 (n % 320))).toNat := fun n hn => by
    rw [hfo n (by omega)]
    exact target_val (.inl rfl) (by omega) (hlt n)
  have hpos' : ∀ m, (fo (nth 1280 m)).toNat < 95000 := fun m => by
    have hm : m % 1280 < 1280 := Nat.mod_lt _ (by decide)
    have hl := hlt (m % 1280)
    rw [← nth_mod m, hpos _ hm]
    omega
  have hval : ∀ c < 4, ∀ n < 320, OUT fp (nth 20000 (5000 * c + 320 * (L 1).val + n)) = gathered fp fo (nth 1280 (320 * c + n)) := fun c hc n hn => by
    rw [show 5000 * c + 320 * (L 1).val + n = 5000 * c + (320 * (L 1).val + n) by omega]
    refine gathered_entry hc (by omega) ?_
    rw [hpos _ (by omega), show (320 * c + n) / 320 = c by omega, show (320 * c + n) % 320 = n by omega, hfb' n hn, Nat.add_assoc 10000]
  iintro ⟨Hp, Hf, HP, Ho, ⟨%fv, Hv⟩, Hsems, HO, #Hmw⟩
  ihave Htodo := (Entails.of_eq (rows_all (F := F) d L q fp fo fv).symm) $$ [Hv Hp HP]
  · isplitl [Hv]; · iexact Hv
    isplitl [Hp]; · iexact Hp
    iexact HP
  ihave Hsems := (Entails.of_eq (each18 _)) $$ Hsems
  icases Hsems with ⟨S0, S1, S2, S3, S4, S5, S6, S7, S8, S9, S10, S11, S12, S13, S14, S15, S16, S17⟩
  imod (batch_start (F := F) d L q fp fo 0 256) $$ S0 with B0
  imod (batch_start (F := F) d L q fp fo 320 256) $$ S1 with B1
  imod (batch_start (F := F) d L q fp fo 640 256) $$ S2 with B2
  imod (batch_start (F := F) d L q fp fo 960 256) $$ S3 with B3
  imod (batch_start (F := F) d L q fp fo 256 64) $$ S4 with B4
  imod (batch_start (F := F) d L q fp fo 576 64) $$ S5 with B5
  imod (batch_start (F := F) d L q fp fo 896 64) $$ S6 with B6
  imod (batch_start (F := F) d L q fp fo 1216 64) $$ S7 with B7
  ihave Ho := (Entails.of_eq (part_split (.inl ⟨h, rfl⟩) vo)) $$ Ho
  icases Ho with ⟨O0, O1, O2, O3⟩
  dsimp only
  iapply (gather_step (F := F) d L q fp fo fv (b := 0) (o := 128) (base := 0) (j := 0) (n := 256) (u := 0) (by decide) rfl (by decide) (by decide) (fun m _ _ => hpos' m) (row_credit128 _)) $$ [Htodo B0]
  · isplitl [Htodo]; · iexact Htodo
    iexact B0
  iintro ⟨Htodo, B0⟩
  iapply (pure_intro (F := F))
  iapply (bind_intro (F := F))
  rw [k0_part10_eq_skeleton]; unfold k0_part10_skel
  dsimp only
  iapply (gather_step (F := F) d L q fp fo fv (b := 128) (o := 128) (base := 0) (j := 128) (n := 256) (u := 0) (by decide) rfl (by decide) (by decide) (fun m _ _ => hpos' m) (row_credit128 _)) $$ [Htodo B0]
  · isplitl [Htodo]; · iexact Htodo
    iexact B0
  iintro ⟨Htodo, B0⟩
  iapply (gather_step (F := F) d L q fp fo fv (b := 256) (o := 64) (base := 256) (j := 0) (n := 64) (u := 0) (by decide) rfl (by decide) (by decide) (fun m _ _ => hpos' m) (row_credit64 _)) $$ [Htodo B4]
  · isplitl [Htodo]; · iexact Htodo
    iexact B4
  iintro ⟨Htodo, B4⟩
  iapply (gather_step (F := F) d L q fp fo fv (b := 320) (o := 128) (base := 320) (j := 0) (n := 256) (u := 0) (by decide) rfl (by decide) (by decide) (fun m _ _ => hpos' m) (row_credit128 _)) $$ [Htodo B1]
  · isplitl [Htodo]; · iexact Htodo
    iexact B1
  iintro ⟨Htodo, B1⟩
  iapply (gather_step (F := F) d L q fp fo fv (b := 448) (o := 128) (base := 320) (j := 128) (n := 256) (u := 0) (by decide) rfl (by decide) (by decide) (fun m _ _ => hpos' m) (row_credit128 _)) $$ [Htodo B1]
  · isplitl [Htodo]; · iexact Htodo
    iexact B1
  iintro ⟨Htodo, B1⟩
  iapply (gather_step (F := F) d L q fp fo fv (b := 576) (o := 64) (base := 576) (j := 0) (n := 64) (u := 0) (by decide) rfl (by decide) (by decide) (fun m _ _ => hpos' m) (row_credit64 _)) $$ [Htodo B5]
  · isplitl [Htodo]; · iexact Htodo
    iexact B5
  iintro ⟨Htodo, B5⟩
  iapply (gather_step (F := F) d L q fp fo fv (b := 640) (o := 128) (base := 640) (j := 0) (n := 256) (u := 0) (by decide) rfl (by decide) (by decide) (fun m _ _ => hpos' m) (row_credit128 _)) $$ [Htodo B2]
  · isplitl [Htodo]; · iexact Htodo
    iexact B2
  iintro ⟨Htodo, B2⟩
  iapply (gather_step (F := F) d L q fp fo fv (b := 768) (o := 128) (base := 640) (j := 128) (n := 256) (u := 0) (by decide) rfl (by decide) (by decide) (fun m _ _ => hpos' m) (row_credit128 _)) $$ [Htodo B2]
  · isplitl [Htodo]; · iexact Htodo
    iexact B2
  iintro ⟨Htodo, B2⟩
  iapply (gather_step (F := F) d L q fp fo fv (b := 896) (o := 64) (base := 896) (j := 0) (n := 64) (u := 0) (by decide) rfl (by decide) (by decide) (fun m _ _ => hpos' m) (row_credit64 _)) $$ [Htodo B6]
  · isplitl [Htodo]; · iexact Htodo
    iexact B6
  iintro ⟨Htodo, B6⟩
  iapply (gather_step (F := F) d L q fp fo fv (b := 960) (o := 128) (base := 960) (j := 0) (n := 256) (u := 0) (by decide) rfl (by decide) (by decide) (fun m _ _ => hpos' m) (row_credit128 _)) $$ [Htodo B3]
  · isplitl [Htodo]; · iexact Htodo
    iexact B3
  iintro ⟨Htodo, B3⟩
  iapply (pure_intro (F := F))
  iapply (bind_intro (F := F))
  rw [k0_part11_eq_skeleton]; unfold k0_part11_skel
  dsimp only
  iapply (gather_step (F := F) d L q fp fo fv (b := 1088) (o := 128) (base := 960) (j := 128) (n := 256) (u := 0) (by decide) rfl (by decide) (by decide) (fun m _ _ => hpos' m) (row_credit128 _)) $$ [Htodo B3]
  · isplitl [Htodo]; · iexact Htodo
    iexact B3
  iintro ⟨Htodo, B3⟩
  iapply (gather_step (F := F) d L q fp fo fv (b := 1216) (o := 64) (base := 1216) (j := 0) (n := 64) (u := 0) (by decide) rfl (by decide) (by decide) (fun m _ _ => hpos' m) (row_credit64 _)) $$ [Htodo B7]
  · isplitl [Htodo]; · iexact Htodo
    iexact B7
  iintro ⟨Htodo, B7⟩
  iapply (wait_any (F := F) (b := 0) (o := 128) (j := 256) (u := 0) (by decide) credit128) $$ [B0 HO]
  · isplitl [B0]; · iexact B0
    isplitl [HO]; · iexact HO
    iexact Hmw
  iintro ⟨B0, HO⟩
  iapply (wait_any (F := F) (b := 128) (o := 128) (j := 256) (u := 0 + 128 * unit1) (by decide) credit128) $$ [B0 HO]
  · isplitl [B0]; · iexact B0
    isplitl [HO]; · iexact HO
    iexact Hmw
  iintro ⟨B0, HO⟩
  iapply (wait_any (F := F) (b := 256) (o := 64) (j := 64) (u := 0) (by decide) credit64) $$ [B4 HO]
  · isplitl [B4]; · iexact B4
    isplitl [HO]; · iexact HO
    iexact Hmw
  iintro ⟨B4, HO⟩
  imod (chunk_done (F := F) (b := 0) (m := 256) (b' := 256) (m' := 64) (o := 320) rfl rfl rfl rfl) $$ [B0 B4] with ⟨R0, S0, S4⟩
  · isplitl [B0]; · iexact B0
    iexact B4
  iapply (write_start (F := F) (b := 0) (o := 320) (e := 320 * (L 1).val) (vo := vo) (vo' := OUT fp) (off_first L 0 (by show 5000 * 0 + _ = _; omega)) (by omega) out_credit320 (fun n hn => by have e := hval 0 (by decide) n hn; rwa [Nat.mul_zero, Nat.zero_add, show (320 * 0 + n) = 0 + n by omega] at e)) $$ [R0 O0 S9]
  · isplitl [R0]; · iexact R0
    isplitl [O0]; · iexact O0
    iexact S9
  iintro F0
  iapply (write_wait (F := F) (b := 0) (o := 320) (by decide) out_credit320) $$ [F0 HO]
  · isplitl [F0]; · iexact F0
    isplitl [HO]; · iexact HO
    iexact Hmw
  iintro ⟨R0, O0, S9, HO⟩
  iapply (wait_any (F := F) (b := 320) (o := 128) (j := 256) (u := 0) (by decide) credit128) $$ [B1 HO]
  · isplitl [B1]; · iexact B1
    isplitl [HO]; · iexact HO
    iexact Hmw
  iintro ⟨B1, HO⟩
  iapply (pure_intro (F := F))
  iapply (bind_intro (F := F))
  rw [k0_part12_eq_skeleton]; unfold k0_part12_skel
  dsimp only
  iapply (wait_any (F := F) (b := 448) (o := 128) (j := 256) (u := 0 + 128 * unit1) (by decide) credit128) $$ [B1 HO]
  · isplitl [B1]; · iexact B1
    isplitl [HO]; · iexact HO
    iexact Hmw
  iintro ⟨B1, HO⟩
  iapply (wait_any (F := F) (b := 576) (o := 64) (j := 64) (u := 0) (by decide) credit64) $$ [B5 HO]
  · isplitl [B5]; · iexact B5
    isplitl [HO]; · iexact HO
    iexact Hmw
  iintro ⟨B5, HO⟩
  imod (chunk_done (F := F) (b := 320) (m := 256) (b' := 576) (m' := 64) (o := 320) rfl rfl rfl rfl) $$ [B1 B5] with ⟨R1, S1, S5⟩
  · isplitl [B1]; · iexact B1
    iexact B5
  iapply (write_start (F := F) (b := 320) (o := 320) (e := 5000 + 320 * (L 1).val) (vo := vo) (vo' := OUT fp) (off_first L 1 (by show 5000 * 1 + _ = _; omega)) (by omega) out_credit320 (fun n hn => by have e := hval 1 (by decide) n hn; rwa [show (320 * 1 + n) = 320 + n by omega] at e)) $$ [R1 O1 S10]
  · isplitl [R1]; · iexact R1
    isplitl [O1]; · iexact O1
    iexact S10
  iintro F1
  iapply (write_wait (F := F) (b := 320) (o := 320) (by decide) out_credit320) $$ [F1 HO]
  · isplitl [F1]; · iexact F1
    isplitl [HO]; · iexact HO
    iexact Hmw
  iintro ⟨R1, O1, S10, HO⟩
  iapply (wait_any (F := F) (b := 640) (o := 128) (j := 256) (u := 0) (by decide) credit128) $$ [B2 HO]
  · isplitl [B2]; · iexact B2
    isplitl [HO]; · iexact HO
    iexact Hmw
  iintro ⟨B2, HO⟩
  iapply (wait_any (F := F) (b := 768) (o := 128) (j := 256) (u := 0 + 128 * unit1) (by decide) credit128) $$ [B2 HO]
  · isplitl [B2]; · iexact B2
    isplitl [HO]; · iexact HO
    iexact Hmw
  iintro ⟨B2, HO⟩
  iapply (wait_any (F := F) (b := 896) (o := 64) (j := 64) (u := 0) (by decide) credit64) $$ [B6 HO]
  · isplitl [B6]; · iexact B6
    isplitl [HO]; · iexact HO
    iexact Hmw
  iintro ⟨B6, HO⟩
  imod (chunk_done (F := F) (b := 640) (m := 256) (b' := 896) (m' := 64) (o := 320) rfl rfl rfl rfl) $$ [B2 B6] with ⟨R2, S2, S6⟩
  · isplitl [B2]; · iexact B2
    iexact B6
  iapply (write_start (F := F) (b := 640) (o := 320) (e := 10000 + 320 * (L 1).val) (vo := vo) (vo' := OUT fp) (off_first L 2 (by show 5000 * 2 + _ = _; omega)) (by omega) out_credit320 (fun n hn => by have e := hval 2 (by decide) n hn; rwa [show (320 * 2 + n) = 640 + n by omega] at e)) $$ [R2 O2 S11]
  · isplitl [R2]; · iexact R2
    isplitl [O2]; · iexact O2
    iexact S11
  iintro F2
  iapply (pure_intro (F := F))
  iapply (write_wait (F := F) (b := 640) (o := 320) (by decide) out_credit320) $$ [F2 HO]
  · isplitl [F2]; · iexact F2
    isplitl [HO]; · iexact HO
    iexact Hmw
  iintro ⟨R2, O2, S11, HO⟩
  iapply (wait_any (F := F) (b := 960) (o := 128) (j := 256) (u := 0) (by decide) credit128) $$ [B3 HO]
  · isplitl [B3]; · iexact B3
    isplitl [HO]; · iexact HO
    iexact Hmw
  iintro ⟨B3, HO⟩
  iapply (wait_any (F := F) (b := 1088) (o := 128) (j := 256) (u := 0 + 128 * unit1) (by decide) credit128) $$ [B3 HO]
  · isplitl [B3]; · iexact B3
    isplitl [HO]; · iexact HO
    iexact Hmw
  iintro ⟨B3, HO⟩
  iapply (wait_any (F := F) (b := 1216) (o := 64) (j := 64) (u := 0) (by decide) credit64) $$ [B7 HO]
  · isplitl [B7]; · iexact B7
    isplitl [HO]; · iexact HO
    iexact Hmw
  iintro ⟨B7, HO⟩
  imod (chunk_done (F := F) (b := 960) (m := 256) (b' := 1216) (m' := 64) (o := 320) rfl rfl rfl rfl) $$ [B3 B7] with ⟨R3, S3, S7⟩
  · isplitl [B3]; · iexact B3
    iexact B7
  iapply (write_start (F := F) (b := 960) (o := 320) (e := 15000 + 320 * (L 1).val) (vo := vo) (vo' := OUT fp) (off_first L 3 (by show 5000 * 3 + _ = _; omega)) (by omega) out_credit320 (fun n hn => by have e := hval 3 (by decide) n hn; rwa [show (320 * 3 + n) = 960 + n by omega] at e)) $$ [R3 O3 S12]
  · isplitl [R3]; · iexact R3
    isplitl [O3]; · iexact O3
    iexact S12
  iintro F3
  iapply (write_wait (F := F) (b := 960) (o := 320) (by decide) out_credit320) $$ [F3 HO]
  · isplitl [F3]; · iexact F3
    isplitl [HO]; · iexact HO
    iexact Hmw
  iintro ⟨R3, O3, S12, HO⟩
  iapply (pure_intro (F := F))
  isplitl [R0 R1 R2 R3 Hf O0 O1 O2 O3 S0 S1 S2 S3 S4 S5 S6 S7 S8 S9 S10 S11 S12 S13 S14 S15 S16 S17]
  · ihave R := (rows_join (F := F) (b := 0) (m := 320) (e := 640) (by decide) (by decide)) $$ [R0 R1]
    · isplitl [R0]; · iexact R0
      iexact R1
    ihave R := (rows_join (F := F) (b := 0) (m := 640) (e := 960) (by decide) (by decide)) $$ [R R2]
    · isplitl [R]; · iexact R
      iexact R2
    ihave R := (rows_join (F := F) (b := 0) (m := 960) (e := 1280) (by decide) (by decide)) $$ [R R3]
    · isplitl [R]; · iexact R
      iexact R3
    iapply (tile_end (F := F))
    isplitl [R]; · iexact R
    isplitl [Hf]; · iexact Hf
    isplitl [O0 O1 O2 O3]
    · iapply (Entails.of_eq (part_split (.inl ⟨h, rfl⟩) (OUT fp)).symm)
      isplitl [O0]; · iexact O0
      isplitl [O1]; · iexact O1
      isplitl [O2]; · iexact O2
      iexact O3
    iapply (Entails.of_eq (each18 _).symm)
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  iexists _
  isplitl []
  rotate_left
  · iexact HO
  ipureintro
  repeat refine waits_more ?_
  exact fun p hp => .inl hp

end Cert.Proof.Boxes
-- ==== Proof.Last.lean ====
/-
  The last tile.  It fetches the last 200 box numbers, builds the list of the positions of 208 entries a component, the
  last eight of each at box numbers left in its buffer and clamped, gathers the words at them and copies each component's
  200 words to the output.
-/
module

public import proofs.«01_k».proof.Proof.Steps

@[expose] public section

noncomputable section

namespace Cert.Proof.Boxes

open Cert.Kernel Cert.Kernel.Gen Cert.Streams

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (d : Dev nD) (L : grid0.Coords)

/-- Where the tile's window of component `c` starts in the output. -/
theorem off_last (h : (L 1).val = 15) (c : Fin 4) {e : ℕ} (he : 5000 * c.val + 4800 = e) : k0_off4 L (BitVec.ofNat 32 (5000 * c.val)) 0 = e := by
  rw [k0_off4_eq L c]
  show 5000 * c.val + 320 * (L 1).val + 320 * (L 0).val = _
  rw [L0, h, Nat.mul_zero, Nat.add_zero, he]

set_option maxRecDepth 65536 in
set_option maxHeartbeats 400000 in
/-- WHAT THE LAST TILE DOES: from its part of the output at any contents to its part at the kernel's result. -/
theorem last_run (h : (L 1).val = 15) (q : PosShare TreeShare) (fp : Words 95000) (vo : Words 20000) (hin : InRange fp)
    {O : CellTallies nD τ sig (HIx 1)} {W : Waits sig (HIx 1)} :
    iprop(tileHas (F := F) d L q fp vo ∗ owes (tile d L) O W ∗ Transfers.MayWaits (tile d L) (default : HIx 1) O)
      ⊢ wp frame (wpE (defs₀ (F := F)) 𝒱₀ (tile d L) none) Set.univ (kernelAt (F := F) L)
          fun _ => iprop(tileHas (F := F) d L q fp (OUT fp) ∗ ∃ W', ⌜∀ p ∈ W', p ∈ W ∨ p.2 = none⌝ ∗ owes (tile d L) O W') := by
  have hc : k0_cond2 L = 1#1 := (last_iff L).mpr h
  have hc1 : ¬ k0_cond1 L = 1#1 := fun e => by have := (first_iff L).mp e; omega
  unfold kernelAt
  rw [cc0_gather_eq_skeleton]; unfold cc0_gather_skel
  rw [dif_neg hc1, dif_pos hc]
  refine bind_step ?_
  rw [k0_part13_eq_skeleton]; unfold k0_part13_skel
  refine tile_fetch (F := F) (d := d) (L := L) (M := fetchM.slice (Rect.unit (s := S320) ![0] S200.size inb_S320_S200_0) (fun _ => rfl)) (o := 200) (p := 10000 + 4800) ?_ (by decide) ?_ (fun fb hfb => ?_)
  · rw [k0_off3_eq]; show 320 * (L 1).val + 320 * (L 0).val + 10000 = _; rw [L0, h]
  · decide
  refine (built_nil (T := target 208 clamp fb)).trans ?_
  repeat first
    | with_reducible refine dead_step (F := F) fun _ => ?_
    | with_reducible refine load_step (F := F) fun v hv => ?_
    | with_reducible refine store_group (F := F) (z := 208) (g := clamp) (.inr rfl) hv (by decide) (fun i => by with_unfolding_all rfl) ?_
  refine pure_step ?_
  refine bind_step ?_
  rw [k0_part14_eq_skeleton]; unfold k0_part14_skel
  repeat first
    | with_reducible refine dead_step (F := F) fun _ => ?_
    | with_reducible refine load_step (F := F) fun v hv => ?_
    | with_reducible refine store_group (F := F) (z := 208) (g := clamp) (.inr rfl) hv (by decide) (fun i => by with_unfolding_all rfl) ?_
  refine pure_step ?_
  refine bind_step ?_
  rw [k0_part15_eq_skeleton]; unfold k0_part15_skel
  repeat first
    | with_reducible refine dead_step (F := F) fun _ => ?_
    | with_reducible refine load_step (F := F) fun v hv => ?_
    | with_reducible refine store_group (F := F) (z := 208) (g := clamp) (.inr rfl) hv (by decide) (fun i => by with_unfolding_all rfl) ?_
  refine pure_step ?_
  refine bind_step ?_
  rw [k0_part16_eq_skeleton]; unfold k0_part16_skel
  repeat first
    | with_reducible refine dead_step (F := F) fun _ => ?_
    | with_reducible refine load_step (F := F) fun v hv => ?_
    | with_reducible refine store_group (F := F) (z := 208) (g := clamp) (.inr rfl) hv (by decide) (fun i => by with_unfolding_all rfl) ?_
  refine pure_step ?_
  refine bind_step ?_
  rw [k0_part17_eq_skeleton]; unfold k0_part17_skel
  repeat first
    | with_reducible refine dead_step (F := F) fun _ => ?_
    | with_reducible refine load_step (F := F) fun v hv => ?_
    | with_reducible refine store_group (F := F) (z := 208) (g := clamp) (.inr rfl) hv (by decide) (fun i => by with_unfolding_all rfl) ?_
  refine pure_step ?_
  refine bind_step ?_
  rw [k0_part18_eq_skeleton]; unfold k0_part18_skel
  repeat first
    | with_reducible refine dead_step (F := F) fun _ => ?_
    | with_reducible refine load_step (F := F) fun v hv => ?_
    | with_reducible refine store_group (F := F) (z := 208) (g := clamp) (.inr rfl) hv (by decide) (fun i => by with_unfolding_all rfl) ?_
  refine pure_step ?_
  refine bind_step ?_
  rw [k0_part19_eq_skeleton]; unfold k0_part19_skel
  repeat first
    | with_reducible refine dead_step (F := F) fun _ => ?_
    | with_reducible refine load_step (F := F) fun v hv => ?_
    | with_reducible refine store_group (F := F) (z := 208) (g := clamp) (.inr rfl) hv (by decide) (fun i => by with_unfolding_all rfl) ?_
  refine pure_step ?_
  refine bind_step ?_
  rw [k0_part20_eq_skeleton]; unfold k0_part20_skel
  repeat first
    | with_reducible refine dead_step (F := F) fun _ => ?_
    | with_reducible refine load_step (F := F) fun v hv => ?_
    | with_reducible refine store_group (F := F) (z := 208) (g := clamp) (.inr rfl) hv (by decide) (fun i => by with_unfolding_all rfl) ?_
  refine built_done (F := F) (m := 52) (by decide) (by decide) fun fo hfo => ?_
  have hfb' : ∀ n < 200, fb (nth 320 n) = fp (nth 95000 (10000 + (4800 + n))) := fun n hn => by
    have e := hfb (nth 200 n)
    rw [nth_val hn, Nat.add_assoc] at e
    have hemb : (fetchM.slice (Rect.unit (s := S320) ![0] S200.size inb_S320_S200_0) (fun _ => rfl)).view.emb (nth 200 n) = nth 320 n :=
      (emb_unit (k := 320) (b := 0) (off := ![0]) (size := S200.size) (inb := inb_S320_S200_0) rfl (nth 200 n)).trans (congrArg (nth 320) (by
        show 0 + (nth 200 n 0).val = n
        rw [nth_val hn, Nat.zero_add]))
    have hr : (fetchM.slice (Rect.unit (s := S320) ![0] S200.size inb_S320_S200_0) (fun _ => rfl)).view.read (Elt F) (fb : Buf (Elt F) (fetchL d L)) (nth 200 n) = fb (nth 320 n) :=
      (View.read_apply _ _).trans (congrArg fb hemb)
    exact hr.symm.trans e
  have hpos : ∀ n < 832, (fo (nth 1280 n)).toNat = 15000 + 20000 * (n / 208) + (clamp (fb (nth 320 (n % 208)))).toNat := fun n hn => by
    rw [hfo n (by omega)]
    exact target_val (.inr rfl) (by omega) (clamp_lt _)
  have hpos' : ∀ m < 832, (fo (nth 1280 m)).toNat < 95000 := fun m hm => by
    have hl := clamp_lt (fb (nth 320 (m % 208)))
    rw [hpos _ hm]
    omega
  have hval : ∀ c < 4, ∀ n < 200, ∀ fv, OUT fp (nth 20000 (5000 * c + (4800 + n))) = upTo 832 (gathered fp fo) fv (nth 1280 (208 * c + n)) := fun c hc n hn fv => by
    unfold upTo
    rw [nth_val (by omega), if_pos (by omega)]
    refine gathered_entry hc (by omega) ?_
    rw [hpos _ (by omega), show (208 * c + n) / 208 = c by omega, show (208 * c + n) % 208 = n by omega, hfb' n hn,
      clamp_of_lt (hin _ (by omega))]
  iintro ⟨Hp, Hf, HP, Ho, ⟨%fv, Hv⟩, Hsems, HO, #Hmw⟩
  ihave Htodo := (Entails.of_eq (rows_all (F := F) d L q fp fo fv).symm) $$ [Hv Hp HP]
  · isplitl [Hv]; · iexact Hv
    isplitl [Hp]; · iexact Hp
    iexact HP
  ihave Hsems := (Entails.of_eq (each18 _)) $$ Hsems
  icases Hsems with ⟨S0, S1, S2, S3, S4, S5, S6, S7, S8, S9, S10, S11, S12, S13, S14, S15, S16, S17⟩
  imod (batch_start (F := F) d L q fp fo 0 832) $$ S4 with B
  ihave Ho := (Entails.of_eq (part_split (o := 200) (.inr ⟨h, rfl⟩) vo)) $$ Ho
  rw [h]
  icases Ho with ⟨O0, O1, O2, O3⟩
  dsimp only
  iapply (gather_step (F := F) d L q fp fo fv (b := 0) (o := 64) (base := 0) (j := 0) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 64) (o := 64) (base := 0) (j := 64) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 128) (o := 64) (base := 0) (j := 128) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 192) (o := 64) (base := 0) (j := 192) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 256) (o := 64) (base := 0) (j := 256) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 320) (o := 64) (base := 0) (j := 320) (n := 832) (u := 0) (by decide) rfl (by decide) (by decide) (fun m _ hm => hpos' m (by omega)) (row_credit64 _)) $$ [Htodo B]
  · isplitl [Htodo]; · iexact Htodo
    iexact B
  iintro ⟨Htodo, B⟩
  iapply (pure_intro (F := F))
  iapply (bind_intro (F := F))
  rw [k0_part21_eq_skeleton]; unfold k0_part21_skel
  dsimp only
  iapply (gather_step (F := F) d L q fp fo fv (b := 384) (o := 64) (base := 0) (j := 384) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 448) (o := 64) (base := 0) (j := 448) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 512) (o := 64) (base := 0) (j := 512) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 576) (o := 64) (base := 0) (j := 576) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 640) (o := 64) (base := 0) (j := 640) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 704) (o := 64) (base := 0) (j := 704) (n := 832) (u := 0) (by decide) rfl (by decide) (by decide) (fun m _ hm => hpos' m (by omega)) (row_credit64 _)) $$ [Htodo B]
  · isplitl [Htodo]; · iexact Htodo
    iexact B
  iintro ⟨Htodo, B⟩
  iapply (gather_step (F := F) d L q fp fo fv (b := 768) (o := 64) (base := 0) (j := 768) (n := 832) (u := 0) (by decide) rfl (by decide) (by decide) (fun m _ hm => hpos' m (by omega)) (row_credit64 _)) $$ [Htodo B]
  · isplitl [Htodo]; · iexact Htodo
    iexact B
  iintro ⟨Htodo, B⟩
  iapply (wait_any (F := F) (b := 0) (o := 64) (j := 832) (u := 0 * unit1) (by decide) credit64) $$ [B HO]
  · isplitl [B]; · iexact B
    isplitl [HO]; · iexact HO
    iexact Hmw
  iintro ⟨B, HO⟩
  iapply (wait_any (F := F) (b := 64) (o := 64) (j := 832) (u := 64 * unit1) (by decide) credit64) $$ [B HO]
  · isplitl [B]; · iexact B
    isplitl [HO]; · iexact HO
    iexact Hmw
  iintro ⟨B, HO⟩
  iapply (pure_intro (F := F))
  iapply (bind_intro (F := F))
  rw [k0_part22_eq_skeleton]; unfold k0_part22_skel
  dsimp only
  iapply (wait_any (F := F) (b := 128) (o := 64) (j := 832) (u := 128 * unit1) (by decide) credit64) $$ [B HO]
  · isplitl [B]; · iexact B
    isplitl [HO]; · iexact HO
    iexact Hmw
  iintro ⟨B, HO⟩
  iapply (wait_any (F := F) (b := 192) (o := 64) (j := 832) (u := 192 * unit1) (by decide) credit64) $$ [B HO]
  · isplitl [B]; · iexact B
    isplitl [HO]; · iexact HO
    iexact Hmw
  iintro ⟨B, HO⟩
  iapply (wait_any (F := F) (b := 256) (o := 64) (j := 832) (u := 256 * unit1) (by decide) credit64) $$ [B HO]
  · isplitl [B]; · iexact B
    isplitl [HO]; · iexact HO
    iexact Hmw
  iintro ⟨B, HO⟩
  iapply (wait_any (F := F) (b := 320) (o := 64) (j := 832) (u := 320 * unit1) (by decide) credit64) $$ [B HO]
  · isplitl [B]; · iexact B
    isplitl [HO]; · iexact HO
    iexact Hmw
  iintro ⟨B, HO⟩
  iapply (wait_any (F := F) (b := 384) (o := 64) (j := 832) (u := 384 * unit1) (by decide) credit64) $$ [B HO]
  · isplitl [B]; · iexact B
    isplitl [HO]; · iexact HO
    iexact Hmw
  iintro ⟨B, HO⟩
  iapply (wait_any (F := F) (b := 448) (o := 64) (j := 832) (u := 448 * unit1) (by decide) credit64) $$ [B HO]
  · isplitl [B]; · iexact B
    isplitl [HO]; · iexact HO
    iexact Hmw
  iintro ⟨B, HO⟩
  iapply (wait_any (F := F) (b := 512) (o := 64) (j := 832) (u := 512 * unit1) (by decide) credit64) $$ [B HO]
  · isplitl [B]; · iexact B
    isplitl [HO]; · iexact HO
    iexact Hmw
  iintro ⟨B, HO⟩
  iapply (wait_any (F := F) (b := 576) (o := 64) (j := 832) (u := 576 * unit1) (by decide) credit64) $$ [B HO]
  · isplitl [B]; · iexact B
    isplitl [HO]; · iexact HO
    iexact Hmw
  iintro ⟨B, HO⟩
  iapply (wait_any (F := F) (b := 640) (o := 64) (j := 832) (u := 640 * unit1) (by decide) credit64) $$ [B HO]
  · isplitl [B]; · iexact B
    isplitl [HO]; · iexact HO
    iexact Hmw
  iintro ⟨B, HO⟩
  iapply (pure_intro (F := F))
  iapply (bind_intro (F := F))
  rw [k0_part23_eq_skeleton]; unfold k0_part23_skel
  dsimp only
  iapply (wait_any (F := F) (b := 704) (o := 64) (j := 832) (u := 704 * unit1) (by decide) credit64) $$ [B HO]
  · isplitl [B]; · iexact B
    isplitl [HO]; · iexact HO
    iexact Hmw
  iintro ⟨B, HO⟩
  iapply (wait_any (F := F) (b := 768) (o := 64) (j := 832) (u := 768 * unit1) (by decide) credit64) $$ [B HO]
  · isplitl [B]; · iexact B
    isplitl [HO]; · iexact HO
    iexact Hmw
  iintro ⟨B, HO⟩
  imod (batch_done (F := F) (u := 832 * unit1) (by decide)) $$ B with ⟨R, S4⟩
  ihave R := (rows_upTo (F := F) (m := 832) (by decide)) $$ [R Htodo]
  · isplitl [R]; · iexact R
    iexact Htodo
  ihave R := (Entails.of_eq (last_rows (F := F))) $$ R
  icases R with ⟨R0, G0, R1, G1, R2, G2, R3, G3⟩
  iapply (write_start (F := F) (b := 0) (o := 200) (e := 4800) (vo := vo) (vo' := OUT fp) (off_last L h 0 (by decide)) (by decide) out_credit200 (fun n hn => by have e := hval 0 (by decide) n hn fv; rwa [← Nat.add_assoc] at e)) $$ [R0 O0 S14]
  · isplitl [R0]; · iexact R0
    isplitl [O0]; · iexact O0
    iexact S14
  iintro F0
  iapply (write_wait (F := F) (b := 0) (o := 200) (by decide) out_credit200) $$ [F0 HO]
  · isplitl [F0]; · iexact F0
    isplitl [HO]; · iexact HO
    iexact Hmw
  iintro ⟨R0, O0, S14, HO⟩
  iapply (write_start (F := F) (b := 208) (o := 200) (e := 9800) (vo := vo) (vo' := OUT fp) (off_last L h 1 (by decide)) (by decide) out_credit200 (fun n hn => by have e := hval 1 (by decide) n hn fv; rwa [← Nat.add_assoc] at e)) $$ [R1 O1 S15]
  · isplitl [R1]; · iexact R1
    isplitl [O1]; · iexact O1
    iexact S15
  iintro F1
  iapply (write_wait (F := F) (b := 208) (o := 200) (by decide) out_credit200) $$ [F1 HO]
  · isplitl [F1]; · iexact F1
    isplitl [HO]; · iexact HO
    iexact Hmw
  iintro ⟨R1, O1, S15, HO⟩
  iapply (write_start (F := F) (b := 416) (o := 200) (e := 14800) (vo := vo) (vo' := OUT fp) (off_last L h 2 (by decide)) (by decide) out_credit200 (fun n hn => by have e := hval 2 (by decide) n hn fv; rwa [← Nat.add_assoc] at e)) $$ [R2 O2 S16]
  · isplitl [R2]; · iexact R2
    isplitl [O2]; · iexact O2
    iexact S16
  iintro F2
  iapply (pure_intro (F := F))
  iapply (write_wait (F := F) (b := 416) (o := 200) (by decide) out_credit200) $$ [F2 HO]
  · isplitl [F2]; · iexact F2
    isplitl [HO]; · iexact HO
    iexact Hmw
  iintro ⟨R2, O2, S16, HO⟩
  iapply (write_start (F := F) (b := 624) (o := 200) (e := 19800) (vo := vo) (vo' := OUT fp) (off_last L h 3 (by decide)) (by decide) out_credit200 (fun n hn => by have e := hval 3 (by decide) n hn fv; rwa [← Nat.add_assoc] at e)) $$ [R3 O3 S17]
  · isplitl [R3]; · iexact R3
    isplitl [O3]; · iexact O3
    iexact S17
  iintro F3
  iapply (write_wait (F := F) (b := 624) (o := 200) (by decide) out_credit200) $$ [F3 HO]
  · isplitl [F3]; · iexact F3
    isplitl [HO]; · iexact HO
    iexact Hmw
  iintro ⟨R3, O3, S17, HO⟩
  iapply (pure_intro (F := F))
  isplitl [R0 R1 R2 R3 G0 G1 G2 G3 Hf O0 O1 O2 O3 S0 S1 S2 S3 S4 S5 S6 S7 S8 S9 S10 S11 S12 S13 S14 S15 S16 S17]
  · iapply (tile_end (F := F) (fo := fo) (fv := upTo 832 (gathered fp fo) fv))
    isplitl [R0 R1 R2 R3 G0 G1 G2 G3]
    · iapply (Entails.of_eq (last_rows (F := F)).symm)
      isplitl [R0]; · iexact R0
      isplitl [G0]; · iexact G0
      isplitl [R1]; · iexact R1
      isplitl [G1]; · iexact G1
      isplitl [R2]; · iexact R2
      isplitl [G2]; · iexact G2
      isplitl [R3]; · iexact R3
      iexact G3
    isplitl [Hf]; · iexact Hf
    isplitl [O0 O1 O2 O3]
    · iapply (Entails.of_eq (part_split (o := 200) (.inr ⟨h, rfl⟩) (OUT fp)).symm)
      rw [h]
      isplitl [O0]; · iexact O0
      isplitl [O1]; · iexact O1
      isplitl [O2]; · iexact O2
      iexact O3
    iapply (Entails.of_eq (each18 _).symm)
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  iexists _
  isplitl []
  rotate_left
  · iexact HO
  ipureintro
  repeat refine waits_more ?_
  exact fun p hp => .inl hp

end Cert.Proof.Boxes
-- ==== Proof.Launch.lean ====
/-
  The launch's obligations: a tile's whole task, and how the call deals the arrays to the tiles and takes them back.
-/
module

public import proofs.«01_k».proof.Proof.First
public import proofs.«01_k».proof.Proof.Last

@[expose] public section

noncomputable section

namespace Cert.Proof.Boxes

open Cert.Kernel Cert.Kernel.Gen Cert.Streams

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (vp : Dev nD → Words 95000) (vo : Dev nD → Words 20000)

/-! ## A tile's task -/

section Tile

variable (d : Dev nD) (L : grid0.Coords)

/-- What any tile does. -/
theorem tile_run (q : PosShare TreeShare) (fp : Words 95000) (f : Words 20000) (hin : InRange fp)
    {O : CellTallies nD τ sig (HIx 1)} {W : Waits sig (HIx 1)} :
    iprop(tileHas (F := F) d L q fp f ∗ owes (tile d L) O W ∗ Transfers.MayWaits (tile d L) (default : HIx 1) O)
      ⊢ wp frame (wpE (defs₀ (F := F)) 𝒱₀ (tile d L) none) Set.univ (kernelAt (F := F) L)
          fun _ => iprop(tileHas (F := F) d L q fp (OUT fp) ∗ ∃ W', ⌜∀ p ∈ W', p ∈ W ∨ p.2 = none⌝ ∗ owes (tile d L) O W') := by
  have h16 := L1 L
  rcases Nat.lt_or_ge (L 1).val 15 with h | h
  · exact first_run (F := F) d L h q fp f hin
  · exact last_run (F := F) d L (by omega) q fp f hin

/-- The task, from what the launch gives a tile to what the tile gives back. -/
theorem tile_task (hin : ∀ d, InRange (vp d)) (O : CellTallies nD τ sig (HIx 1)) (W : Waits sig (HIx 1)) (hO : ∀ g, O g none = 0) :
    iprop(levAts (K (F := F)).L (K (F := F)).lev ∗ emp
        ∗ (pShare (F := F) vp d (jL L) ∗ oPart (F := F) d (jL L) (vo d))
        ∗ scopedBufs (tile d L) ∗ scopedSems0 (tile d L) ∗ owes (tile d L) O W)
      ⊢ wp frame (wpE (defs₀ (F := F)) 𝒱₀ (tile d L) none) Set.univ (kernelAt (F := F) L)
          fun _ => iprop((pShare (F := F) vp d (jL L) ∗ oPart (F := F) d (jL L) (OUT (vp d)))
            ∗ scopedBufs (tile d L) ∗ scopedSems0 (tile d L)
            ∗ ∃ W', ⌜∀ p ∈ W', p ∈ W ∨ p.2 = none⌝ ∗ owes (tile d L) O W') := by
  rw [(K (F := F)).scopedBufs_V facts d (cV L) (jV L), SparseCore.Cfg.scopedSems0_V (Val := Elt F) d (cV L) (jV L), ownSems0_tile, ownBufs_tile]
  iintro ⟨#Hlv, -, ⟨HP, Ho⟩, ⟨Hf, Hp, Hv, Hbufs⟩, ⟨Hs, Hsems⟩, HO⟩
  ihave Hmw := (show levAts (K (F := F)).L (K (F := F)).lev ⊢ Transfers.MayWaits (tile d L) (default : HIx 1) O from
    (K (F := F)).mayWaits_none (thr := tile d L) hO) $$ Hlv
  iapply (wp_wand frame _ _) $$ [HP Ho Hf Hp Hv Hs HO Hmw]
  · iapply (tile_run (F := F) d L (share (jL L)) (vp d) (vo d) (hin d) (O := O) (W := W))
    isplitl [HP Ho Hf Hp Hv Hs]
    · isplitl [HP]; · iexact HP
      isplitl [Ho]; · iexact Ho
      isplitl [Hf]; · iexact Hf
      isplitl [Hp]; · iexact Hp
      isplitl [Hv]; · iexact Hv
      iexact Hs
    isplitl [HO]; · iexact HO
    iexact Hmw
  iintro %r ⟨⟨HP, Ho, Hf, Hp, Hv, Hs⟩, HO⟩
  isplitl [HP Ho]
  · isplitl [HP]; · iexact HP
    iexact Ho
  isplitl [Hf Hp Hv Hbufs]
  · isplitl [Hf]; · iexact Hf
    isplitl [Hp]; · iexact Hp
    isplitl [Hv]; · iexact Hv
    iexact Hbufs
  isplitl [Hs Hsems]
  · isplitl [Hs]; · iexact Hs
    iexact Hsems
  iexact HO

end Tile

/-! ## The obligation -/

/-- A tile of the call runs the kernel at its own coordinates. -/
theorem defs₀_tile (c : Fin τ.nSC) (s : Fin τ.nSub) :
    defs₀ (F := F) (.scVector c s) 0 ()
      = SparseCore.onTile hcore0 hsub0 (fun c s => kernelAt (F := F) (coordsV c s)) ⟨⟩ c s := rfl

/-- Waits that are the task's own count among those the call allows. -/
theorem waits_allowed {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; exact fun p hp => (h p hp).imp_right Or.inl
  · iexact HO

set_option maxRecDepth 16384 in
/-- The launch's obligation for the call: every tile does its task. -/
theorem tileObl (hin : ∀ d, InRange (vp d)) : (K (F := F)).TileObl (D (F := F)) 𝒱 (P (F := F) vp vo) v₀ 0 := by
  intro d c i O W hO _ _
  simp only [show (P (F := F) vp vo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_task (F := F) vp vo d (coordsV ⟨_, hci.1⟩ ⟨_, hci.2⟩) hin O W hO).trans (wp_mono frame _ _ fun _ => waits_allowed)

/-! ## Dealing the arrays out -/

/-- Different tiles' parts of the result share no word. -/
theorem parts_disjoint : ∀ i ∈ (Finset.univ : Finset (Fin 16)), ∀ j ∈ (Finset.univ : Finset (Fin 16)), i ≠ j →
    Disjoint (part i.val) (part j.val) := by
  intro i _ j _ h
  refine Finset.disjoint_filter.mpr fun e _ hi hj => h (Fin.ext ?_)
  rw [← hi, ← hj]

/-- Every word of the result is in some tile's part. -/
theorem parts_cover : ((Finset.univ : Finset (Fin 16)).biUnion fun w => part w.val) = Finset.univ := by
  refine Finset.eq_univ_iff_forall.mpr fun e => Finset.mem_biUnion.mpr ?_
  exact ⟨⟨(e 0).val % 5000 / 320, by omega⟩, Finset.mem_univ _, Finset.mem_filter.mpr ⟨Finset.mem_univ _, rfl⟩⟩

/-- The result array is its tiles' parts. -/
theorem out_parts (d : Dev nD) (f : Words 20000) :
    oPts (F := F) d f = bigSep Finset.univ fun w : Fin 16 => oPart (F := F) d w f := by
  show (oLoc d ↦{fullShare} (show Buf (Elt F) (oLoc d) from f) : sProp 𝕄) = _
  rw [← parts_cover]
  exact pointsTo_biUnion Finset.univ (ℓ := oLoc d) (fun w : Fin 16 => part w.val) parts_disjoint

/-- The packed input is its tiles' shares. -/
theorem packed_shares (d : Dev nD) : pPts (F := F) vp d = bigSep Finset.univ fun w : Fin 16 => pShare (F := F) vp d w :=
  pointsTo_piecesOf (Val := Elt F) (Ix := HIx 1) (Name := ℕ) (U := UU) (Lvl := ℕ) (ℓ := pLoc d) Finset.univ (vp d) (o := 16)
    (by decide) fullShare

/-- A product over the call's tiles is one over sixteen. -/
theorem over_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's arrays go out to the tiles and come back from them, the result array filled. -/
theorem vecSplit : (K (F := F)).VecSplit' (P (F := F) vp vo) 0 := by
  intro d c
  show iprop(pPts (F := F) vp d ∗ oPts (F := F) d (vo d)) ⊢ |={Set.univ}=> iprop(
      (bigSep Finset.univ fun i : Fin ((K (F := F)).nSub 0) =>
        iprop(pShare (F := F) vp d (Fin.cast nSub_zero i) ∗ oPart (F := F) d (Fin.cast nSub_zero i) (vo d)))
      ∗ ((bigSep Finset.univ fun i : Fin ((K (F := F)).nSub 0) =>
          iprop(pShare (F := F) vp d (Fin.cast nSub_zero i) ∗ oPart (F := F) d (Fin.cast nSub_zero i) (OUT (vp d))))
          -∗ iprop(pPts (F := F) vp d ∗ oPts (F := F) d (OUT (vp d)))))
  rw [over_tiles (F := F) (fun i => iprop(pShare (F := F) vp d i ∗ oPart (F := F) d i (vo d))),
    over_tiles (F := F) (fun i => iprop(pShare (F := F) vp d i ∗ oPart (F := F) d i (OUT (vp d)))), bigSep_sep', bigSep_sep',
    out_parts, out_parts, packed_shares]
  iintro H; imodintro
  isplitl [H]; · iexact H
  iintro H; iexact H

/-! ## The ghost state the launch starts from -/

/-- The handshakes' cells and tokens; nothing of the copies is in flight. -/
def u₀ : UU := (initOf (K (F := F)).hsCells (K (F := F)).hsToks, 1)

/-- Nothing for each is nothing. -/
theorem nothing_each {I : Type} (s : Finset I) : (bigSep s fun _ => iprop(emp)) = (iprop(emp) : sProp 𝕄) := bigSep_emp_const s

/-- It gives the handshakes what they need; the tiles need nothing of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F) vp vo).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun thr : Thread nD τ => bigSep Finset.univ fun q : Fin 1 => (P (F := F) vp vo).x q thr)
      = bigSep Finset.univ fun _ => iprop(emp) from
    bigSep_congr fun _ _ => bigSep_univ_of_subsingleton (0 : Fin 1), nothing_each]
  iempintro

end Cert.Proof.Boxes
-- ==== Proof.Main.lean ====
/-
  The host program: what it packs before the call, what it unpacks after it, and the run of the whole program.
-/
module

public import proofs.«01_k».proof.Proof.Launch
public import Idealize.ShloMosaic.Lib.Pipeline.Frame

@[expose] public section

noncomputable section

namespace Cert.Proof.Boxes

open Cert.Kernel Cert.Kernel.Gen Cert.Streams

open Idealize.ShloMosaic
open Idealize.ShloMosaic.SparseCore (S V T)
open Idealize.ShloMosaic.StableHlo (held seq seqK seq_bind_seqK after held_congr held_sub_split wp_seq)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## What the host program computes -/

/-- The selection, as the program's first argument holds it. -/
abbrev Sel : Type := (⟨S5000x3, .i32⟩ : BufTy).Contents (Elt F)
/-- The boxes, as the program's second argument holds them. -/
abbrev Box : Type := (⟨S1x20000x4, .f32⟩ : BufTy).Contents (Elt F)
/-- The boxes taken, as the program's result holds them. -/
abbrev Res : Type := (⟨S5000x4, .f32⟩ : BufTy).Contents (Elt F)

/-- The packed input: the selection's columns one after the other, then the boxes' components, as bits. -/
def packed (s : Sel (F := F)) (b : Box (F := F)) : Words 95000 :=
  (concatenate S95000 0
    [⟨S15000, shapeCast S15000 (transpose S3x5000 [1, 0] s transposes_S5000x3_S3x5000_1_0) shapeCasts_S3x5000_S15000⟩,
     ⟨S80000, shapeCast S80000
        (bitcastToInt (transpose S4x20000 [1, 0] (shapeCast S20000x4 b shapeCasts_S1x20000x4_S20000x4) transposes_S20000x4_S4x20000_1_0)
          : (⟨S4x20000, .i32⟩ : BufTy).Contents (Elt F))
        shapeCasts_S4x20000_S80000⟩]
    concatenates_S15000_S80000_S95000_d0 : (⟨S95000, .i32⟩ : BufTy).Contents (Elt F))

/-- The result from the call's flat output: its four rows as the columns, as floats. -/
def unpacked (o : Words 20000) : Res (F := F) :=
  bitcastToFloat .f32
    (transpose S5000x4 [1, 0] (shapeCast S4x5000 (show (⟨S20000, .i32⟩ : BufTy).Contents (Elt F) from o) shapeCasts_S20000_S4x5000)
      transposes_S4x5000_S5000x4_1_0 : (⟨S5000x4, .i32⟩ : BufTy).Contents (Elt F))

/-! ## The operations before the call and after it -/

/-- The host program's operations before the call. -/
def opsBefore : List (HloOp τ sig (Elt F)) :=
  [StableHlo.unary main_arg0 main_v0 ((transpose S3x5000 [1, 0] · transposes_S5000x3_S3x5000_1_0) : (⟨S5000x3, .i32⟩ : BufTy).Contents (Elt F) → (⟨S3x5000, .i32⟩ : BufTy).Contents (Elt F)),
   StableHlo.reshape main_arg1 main_v1 (rfl : (.f32 : EltTy) = .f32) shapeCasts_S1x20000x4_S20000x4,
   StableHlo.unary main_v1 main_v2 ((transpose S4x20000 [1, 0] · transposes_S20000x4_S4x20000_1_0) : (⟨S20000x4, .f32⟩ : BufTy).Contents (Elt F) → (⟨S4x20000, .f32⟩ : BufTy).Contents (Elt F)),
   StableHlo.unary main_v2 main_v3 (bitcastToInt : (⟨S4x20000, .f32⟩ : BufTy).Contents (Elt F) → (⟨S4x20000, .i32⟩ : BufTy).Contents (Elt F)),
   StableHlo.reshape main_v0 main_v4 (rfl : (.i32 : EltTy) = .i32) shapeCasts_S3x5000_S15000,
   StableHlo.reshape main_v3 main_v5 (rfl : (.i32 : EltTy) = .i32) shapeCasts_S4x20000_S80000,
   StableHlo.binary main_v4 main_v5 main_v6 ((fun a b => concatenate S95000 0 [⟨S15000, a⟩, ⟨S80000, b⟩] concatenates_S15000_S80000_S95000_d0) : (⟨S15000, .i32⟩ : BufTy).Contents (Elt F) → (⟨S80000, .i32⟩ : BufTy).Contents (Elt F) → (⟨S95000, .i32⟩ : BufTy).Contents (Elt F))]

/-- The host program's operations after the call. -/
def opsAfter : List (HloOp τ sig (Elt F)) :=
  [StableHlo.reshape main_v7 main_v8 (rfl : (.i32 : EltTy) = .i32) shapeCasts_S20000_S4x5000,
   StableHlo.unary main_v8 main_v9 ((transpose S5000x4 [1, 0] · transposes_S4x5000_S5000x4_1_0) : (⟨S4x5000, .i32⟩ : BufTy).Contents (Elt F) → (⟨S5000x4, .i32⟩ : BufTy).Contents (Elt F)),
   StableHlo.unary main_v9 main_v10 (bitcastToFloat .f32 : (⟨S5000x4, .i32⟩ : BufTy).Contents (Elt F) → (⟨S5000x4, .f32⟩ : BufTy).Contents (Elt F))]

/-- The host program is the first operations, the call, the last operations. -/
theorem main_eq (d : Dev nD) :
    (main (F := F) d) = (seq opsBefore >>= fun _ => (sc (F := F)).run d 0 >>= fun _ => seq opsAfter) := by
  rw [seq_bind_seqK]; rfl

/-- The first argument, the selection. -/
abbrev a0' : DevRef τ sig := Proc.devRef .tc (main_arg0 : Ref sig .tc)
/-- The second argument, the boxes. -/
abbrev a1' : DevRef τ sig := Proc.devRef .tc (main_arg1 : Ref sig .tc)
/-- The packed input. -/
abbrev p' : DevRef τ sig := Proc.devRef .tc (main_v6 : Ref sig .tc)
/-- The call's output. -/
abbrev o' : DevRef τ sig := Proc.devRef .tc (main_v7 : Ref sig .tc)
/-- The program's result. -/
abbrev r' : DevRef τ sig := Proc.devRef .tc (main_v10 : Ref sig .tc)

section Values

variable (W : Valuation τ sig (Elt F))

/-- Before the call, the packed input stands packed; the arguments and the call's output are as they were. -/
theorem before_p : after (opsBefore (F := F)) W p' = packed (F := F) (W a0') (W a1') := by
  unfold opsBefore; after_results; rfl
/-- Packing leaves the first argument as it was. -/
theorem before_a0 : after (opsBefore (F := F)) W a0' = W a0' := by unfold opsBefore; after_results
/-- Packing leaves the second argument as it was. -/
theorem before_a1 : after (opsBefore (F := F)) W a1' = W a1' := by unfold opsBefore; after_results
/-- Packing leaves the call's output as it was. -/
theorem before_o : after (opsBefore (F := F)) W o' = W o' := by unfold opsBefore; after_results

/-- After the last operations, the result is the call's output unpacked; the arguments are as they were. -/
theorem after_r : after (opsAfter (F := F)) W r' = unpacked (F := F) (W o') := by unfold opsAfter; after_results; rfl
/-- Unpacking leaves the first argument as it was. -/
theorem after_a0 : after (opsAfter (F := F)) W a0' = W a0' := by unfold opsAfter; after_results
/-- Unpacking leaves the second argument as it was. -/
theorem after_a1 : after (opsAfter (F := F)) W a1' = W a1' := by unfold opsAfter; after_results

end Values

/-! ## The host program's run -/

section Run

variable (m : (ℓ : Loc nD τ sig) → Buf (Elt F) ℓ) (ρ : Dev nD → PrngReg)

/-- A device's arrays at the launch. -/
def V0 (d : Dev nD) : Valuation τ sig (Elt F) := fun b => m (d, b)
/-- A device's arrays before the call: packed. -/
def V1 (d : Dev nD) : Valuation τ sig (Elt F) := after opsBefore (V0 m d)

/-- The packed input that the call is given. -/
def given (d : Dev nD) : Words 95000 := packed (F := F) (m (d, a0')) (m (d, a1'))
/-- The call's output as the launch left it. -/
def stale (d : Dev nD) : Words 20000 := (show Buf (Elt F) (oLoc d) from m (d, o'))

/-- A device's arrays after the call: the output holds the words selected. -/
def V2 (d : Dev nD) : Valuation τ sig (Elt F) :=
  Function.update (V1 m d) o' (show Buf (Elt F) (oLoc d) from OUT (given m d))

/-- What the program leaves in its result array. -/
def result (d : Dev nD) : Res (F := F) := unpacked (F := F) (OUT (given m d))

/-- The arrays the host program owns. -/
abbrev U : Finset (DevRef τ sig) := Pipeline.ucRefs τ sig
/-- The call's arrays. -/
abbrev C : Finset (DevRef τ sig) := {p', o'}
/-- The arrays that the claims read. -/
abbrev R : Finset (DevRef τ sig) := {a0', a1', r'}

/-- An array of the host program's own is one that it owns. -/
theorem owned (b : Ref sig .tc) (h : ¬ b.isScoped) : (Proc.devRef .tc b : DevRef τ sig) ∈ U :=
  Finset.mem_filter.mpr ⟨StableHlo.devRef_mem_tcRefs b, h⟩

/-- The host program owns the call's arrays. -/
theorem C_sub : C ⊆ U := by
  intro b hb
  rcases Finset.mem_insert.mp hb with rfl | hb
  · exact owned main_v6 (by decide)
  · cases Finset.mem_singleton.mp hb; exact owned main_v7 (by decide)

/-- The host program owns the arrays that the claims read. -/
theorem R_sub : R ⊆ U := by
  intro b hb
  rcases Finset.mem_insert.mp hb with rfl | hb
  · exact owned main_arg0 (by decide)
  rcases Finset.mem_insert.mp hb with rfl | hb
  · exact owned main_arg1 (by decide)
  · cases Finset.mem_singleton.mp hb; exact owned main_v10 (by decide)

/-- Packing touches only arrays that the host program owns. -/
theorem before_sub : ∀ op ∈ opsBefore (F := F), op.bufs ⊆ U := by
  refine List.forall_iff_forall_mem.mp ?_
  unfold opsBefore
  exact ⟨Pipeline.sub_ucRefs _ (by simp), Pipeline.sub_ucRefs _ (by simp), Pipeline.sub_ucRefs _ (by simp),
    Pipeline.sub_ucRefs _ (by simp), Pipeline.sub_ucRefs _ (by simp), Pipeline.sub_ucRefs _ (by simp), Pipeline.sub_ucRefs _ (by simp)⟩

/-- Unpacking touches only arrays that the host program owns. -/
theorem after_sub : ∀ op ∈ opsAfter (F := F), op.bufs ⊆ U := by
  refine List.forall_iff_forall_mem.mp ?_
  unfold opsAfter
  exact ⟨Pipeline.sub_ucRefs _ (by simp), Pipeline.sub_ucRefs _ (by simp), Pipeline.sub_ucRefs _ (by simp)⟩

/-- Packing makes no array. -/
theorem before_fresh : ∀ op ∈ opsBefore (F := F), op.fresh = ∅ := List.forall_iff_forall_mem.mp ⟨rfl, rfl, rfl, rfl, rfl, rfl, rfl⟩
/-- Unpacking makes no array. -/
theorem after_fresh : ∀ op ∈ opsAfter (F := F), op.fresh = ∅ := List.forall_iff_forall_mem.mp ⟨rfl, rfl, rfl⟩

/-- The call's arrays as what the call is given. -/
theorem held_given (d : Dev nD) :
    (held (d.tc : Thread nD τ) C (V1 m d) : sProp 𝕄) = iprop(pPts (F := F) (given m) d ∗ oPts (F := F) d (stale m d)) := by
  unfold held
  rw [SparseCore.bigSep_insert' (by decide), bigSep_singleton]
  unfold V1
  rw [before_p, before_o]
  rfl

/-- The call's arrays as what the call gives back. -/
theorem held_back (d : Dev nD) :
    (held (d.tc : Thread nD τ) C (V2 m d) : sProp 𝕄) = iprop(pPts (F := F) (given m) d ∗ oPts (F := F) d (OUT (given m d))) := by
  unfold held
  rw [SparseCore.bigSep_insert' (by decide), bigSep_singleton]
  unfold V2
  rw [Function.update_self, Function.update_of_ne (show p' ≠ o' by decide)]
  unfold V1
  rw [before_p]
  rfl

/-- The other arrays are the same before the call and after it. -/
theorem held_others (d : Dev nD) : (held (d.tc : Thread nD τ) (U \ C) (V1 m d) : sProp 𝕄) = held (d.tc : Thread nD τ) (U \ C) (V2 m d) := by
  refine held_congr _ fun b hb => (Function.update_of_ne (fun e => (Finset.mem_sdiff.mp hb).2 ?_) _ _).symm
  rw [e]
  exact Finset.mem_insert_of_mem (Finset.mem_singleton_self _)

/-- Where a device keeps the selection. -/
abbrev a0Loc (d : Dev nD) : Loc nD τ sig := (d.tc : Thread nD τ).loc main_arg0
/-- Where a device keeps the boxes. -/
abbrev a1Loc (d : Dev nD) : Loc nD τ sig := (d.tc : Thread nD τ).loc main_arg1
/-- Where a device keeps the result. -/
abbrev rLoc (d : Dev nD) : Loc nD τ sig := (d.tc : Thread nD τ).loc main_v10

/-- What the host program leaves the claims: both arguments as they were, the result array holding the result. -/
abbrev FIN (d : Dev nD) : sProp 𝕄 :=
  iprop((a0Loc d ↦{fullShare} m (a0Loc d)) ∗ (a1Loc d ↦{fullShare} m (a1Loc d)) ∗ rLoc d ↦{fullShare} (show Buf (Elt F) (rLoc d) from result m d))

/-- The arrays that the claims read, after unpacking, hold what the claims say. -/
theorem held_fin (d : Dev nD) : (held (d.tc : Thread nD τ) R (after opsAfter (V2 m d)) : sProp 𝕄) = FIN (F := F) m d := by
  unfold held
  rw [SparseCore.bigSep_insert' (by decide), SparseCore.bigSep_insert' (by decide), bigSep_singleton, after_a0, after_a1, after_r]
  unfold V2
  rw [Function.update_self, Function.update_of_ne (show a0' ≠ o' by decide), Function.update_of_ne (show a1' ≠ o' by decide)]
  unfold V1
  rw [before_a0, before_a1]
  rfl

/-- What the call takes: the packed input, and the output as it was. -/
theorem call_takes (d : Dev nD) :
    (bigSep Finset.univ fun c : Fin ((K (F := F)).nCore 0) => (P (F := F) (given m) (stale m)).st 0 d c)
      = iprop(pPts (F := F) (given m) d ∗ oPts (F := F) d (stale m d)) :=
  bigSep_univ_of_subsingleton (0 : Fin 1)
/-- What the call gives back: the packed input, and the output holding the words selected. -/
theorem call_gives (d : Dev nD) :
    (bigSep Finset.univ fun c : Fin ((K (F := F)).nCore 0) => (P (F := F) (given m) (stale m)).dn 0 d c)
      = iprop(pPts (F := F) (given m) d ∗ oPts (F := F) d (OUT (given m d))) :=
  bigSep_univ_of_subsingleton (0 : Fin 1)

/-- The launch hands the host program its arrays as the initial memory has them. -/
theorem unscoped_held (d : Dev nD) :
    (unscopedBufs d (fun b => m ((SparseCore.T d).loc b)) : sProp 𝕄) = held (d.tc : Thread nD τ) U (V0 m d) :=
  Pipeline.unscopedBufs_held (Ix := HIx 1) (Name := ℕ) (U := UU) (Lvl := ℕ) d (V0 m d)

/-- The host program on a device: pack, call, unpack. -/
theorem hmain (κ : GSem nD τ sig → ℕ) (d : Dev nD) :
    iprop((K (F := F)).ctx EH (P (F := F) (given m) (stale m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN (F := F) m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d U _ opsBefore before_sub before_fresh (V0 m d)) $$ [Hb Hheld]
  · isplitl [Hb] <;> iassumption
  iintro ⟨Hb, Hheld⟩
  ihave Hh := (Entails.of_eq (show (held (d.tc : Thread nD τ) U (after opsBefore (V0 m d)) : sProp 𝕄)
      = iprop((pPts (F := F) (given m) d ∗ oPts (F := F) d (stale m d)) ∗ held (d.tc : Thread nD τ) (U \ C) (V2 m d)) by
    rw [held_sub_split _ C_sub, ← held_others, ← held_given]; rfl)) $$ Hheld
  icases Hh with ⟨Hpo, Hrest⟩
  rw [wp_bind]
  iapply ((K (F := F)).wp_run (D (F := F)) 𝒱 (EH := EH) (P := P (F := F) (given m) (stale m)) κ d 0) $$ [Hst Hpo Hb Hrest Hts]
  isplitr; · iexact Hctx
  isplitl [Hst]; · iexact Hst
  isplitl [Hpo]
  · rw [call_takes]; iexact Hpo
  iintro ⟨Hst, Hdn⟩
  ihave Hpo := (Entails.of_eq (call_gives m d)) $$ Hdn
  ihave Hheld := (Entails.of_eq (show iprop((pPts (F := F) (given m) d ∗ oPts (F := F) d (OUT (given m d))) ∗ held (d.tc : Thread nD τ) (U \ C) (V2 m d))
      = (held (d.tc : Thread nD τ) U (V2 m d) : sProp 𝕄) by
    rw [held_sub_split _ C_sub, ← held_back])) $$ [Hpo Hrest]
  · isplitl [Hpo] <;> iassumption
  rw [← bind_pure (seq opsAfter)]
  iapply (wp_seq 𝒱 none Set.univ d U _ opsAfter after_sub after_fresh (V2 m d)) $$ [Hb Hheld]
  · isplitl [Hb] <;> iassumption
  iintro ⟨Hb, Hheld⟩
  ihave Hh := (Entails.of_eq (show (held (d.tc : Thread nD τ) U (after opsAfter (V2 m d)) : sProp 𝕄)
      = iprop(FIN (F := F) m d ∗ held (d.tc : Thread nD τ) (U \ R) (after opsAfter (V2 m d))) by
    rw [held_sub_split _ R_sub, held_fin])) $$ Hheld
  icases Hh with ⟨Hfin, -⟩
  rw [wp_pure]; imodintro
  isplitl [Hst]; · iexact Hst
  isplitl [Hfin]; · iexact Hfin
  isplitl [Hb] <;> iassumption

/-- What the claims read of a device's final state. -/
def fq (d : Dev nD) (s' : Phys nD τ sig (Elt F)) : Prop :=
  s'.mem.mem (a0Loc d) = m (a0Loc d) ∧ s'.mem.mem (a1Loc d) = m (a1Loc d) ∧ s'.mem.mem (rLoc d) = (show Buf (Elt F) (rLoc d) from result m d)

set_option maxRecDepth 16384 in
/-- A final state that agrees with what the host program leaves has the arguments unchanged and the result in place. -/
theorem hfin (d : Dev nD) (s' : Phys nD τ sig (Elt F)) : iprop(FIN (F := F) m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := (show Buf (Elt F) (rLoc d) from result m d))) $$ [HSI Hr]
  · isplitl [HSI] <;> iassumption
  icases H with %hr
  ipureintro
  exact ⟨funext fun i => h0 i (Finset.mem_univ i), funext fun i => h1 i (Finset.mem_univ i), funext fun i => hr i (Finset.mem_univ i)⟩

/-- How the program ends: the arguments as they were, the result array holding the result, every counter at zero. -/
def Ends : PUnit × MemSt nD τ sig (Elt F) → Prop := fun r =>
  (∀ c : Dev nD, r.2.mem (a0Loc c) = m (a0Loc c) ∧ r.2.mem (a1Loc c) = m (a1Loc c) ∧ r.2.mem (rLoc c) = (show Buf (Elt F) (rLoc c) from result m c))
    ∧ r.2.sem = fun _ => 0

/-- THE KERNEL'S RUN: from a memory whose box numbers are in range, every execution of the program ends so. -/
theorem run_main [∀ e, Nonempty (Elt F e)] (hin : ∀ d, InRange (given m d)) :
    θ_run (Cert.Kernel.defs (F := F)) (Cert.Kernel.threads (F := F)) ⟨m, fun _ => 0, ρ⟩ (Ends m) :=
  SparseCore.Cfg.θ_run_sc_quiescent (K := K (F := F)) (D := D (F := F)) (𝒱 := 𝒱) (EH := EH) (P := P (F := F) (given m) (stale m)) (A := ∅) facts v₀
    (fun q hq => match q with | 0 => nomatch hq)
    (fun q _ => match q with | 0 => tileObl (given m) (stale m) hin)
    (fun q _ => match q with | 0 => SparseCore.Cfg.VecSplit.of_plain (vecSplit (given m) (stale m)))
    m ρ main (fun _ => iprop(emp)) (FIN m) (u₀ (F := F)) (sep_elim_left.trans (hu₀ (given m) (stale m))) (hmain m ρ) (fq m) (hfin m) (Ends m)
    (fun _ h hz => ⟨h, hz⟩)

end Run

end Cert.Proof.Boxes
-- ==== Proof.Values.lean ====
/-
  Where each word of the packed input and of the result comes from.
-/
module

public import proofs.«01_k».proof.Proof.Main
public import Idealize.ShloMosaic.Lib.Pipeline.Value
public import Idealize.ShloMosaic.Lib.Pointwise.ElementwiseCore

@[expose] public section

noncomputable section

namespace Cert.Proof.Boxes

open Cert.Kernel Cert.Kernel.Gen Cert.Streams

open Idealize.ShloMosaic
open Idealize.ShloMosaic.SparseCore (S V T)
open Idealize.ShloMosaic.StableHlo (held seq seqK seq_bind_seqK after held_congr held_sub_split wp_seq)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- A one-dimensional cast of a table reads, at `n * a + b`, its entry `(a, b)`. -/
theorem flat_entry {α : Type} {m n k : ℕ} [NeZero k] (x : (⟨2, ![m, n]⟩ : Shape).Idx → α) (h : (⟨2, ![m, n]⟩ : Shape).ShapeCasts ⟨1, ![k]⟩)
    (a : Fin m) (b : Fin n) (hk : n * a.val + b.val < k) :
    shapeCast ⟨1, ![k]⟩ x h (nth k (n * a.val + b.val)) = x (ix2 a b) := by
  refine shapeCast_apply x h _ _ ?_
  rw [Shape.rowMajor_val_two, Shape.rowMajor_val_one, nth_val (k := k) hk]
  show a.val * n + b.val = _
  rw [Nat.mul_comm]

/-- A swap of a table's axes reads, at `(a, b)`, its entry `(b, a)`. -/
theorem swap_entry {α : Type} {m n : ℕ} (x : (⟨2, ![m, n]⟩ : Shape).Idx → α) (h : (⟨2, ![m, n]⟩ : Shape).Transposes [1, 0] ⟨2, ![n, m]⟩)
    (a : Fin n) (b : Fin m) : transpose ⟨2, ![n, m]⟩ [1, 0] x h (ix2 a b) = x (ix2 b a) := by
  refine transpose_apply _ x h _ _ fun i => ?_
  match i with
  | ⟨0, _⟩ => rfl
  | ⟨1, _⟩ => rfl

/-- The packed input's word `10000 + r` is the number in row `r` of the selection's last column. -/
theorem packed_num (s : Sel (F := F)) (b : Box (F := F)) (r : Fin 5000) :
    packed (F := F) s b (nth 95000 (10000 + r.val)) = (s (ix2 r 2) : BitVec 32) := by
  have hr := r.isLt
  unfold packed
  refine (concatenate_pair_apply_left (t := S95000) (s₁ := S15000) (s₂ := S80000) 0 _ _ _ _ rfl (nth 15000 (5000 * (2 : Fin 3).val + r.val)) fun a => ?_).trans ?_
  · obtain rfl : a = 0 := Subsingleton.elim _ _
    show (nth 15000 (5000 * 2 + r.val) 0).val = (nth 95000 _ 0).val
    rw [nth_val (k := 15000) (show 5000 * 2 + r.val < 15000 by omega), nth_val (k := 95000) (by omega)]
  · rw [flat_entry _ _ _ _ (show 5000 * 2 + r.val < 15000 by omega)]
    exact swap_entry s _ 2 r

/-- The packed input's word `15000 + 20000 c + k` is the bits of component `c` of box `k`. -/
theorem packed_word (s : Sel (F := F)) (b : Box (F := F)) (c : Fin 4) (k : Fin 20000) :
    packed (F := F) s b (nth 95000 (15000 + 20000 * c.val + k.val)) = BitOps.toBits (b (ix3 0 k c)) := by
  have hc := c.isLt
  have hk := k.isLt
  unfold packed
  refine (concatenate_pair_apply_right (t := S95000) (s₁ := S15000) (s₂ := S80000) 0 _ _ _ _ rfl rfl (nth 80000 (20000 * c.val + k.val)) (fun a h => ?_) ?_).trans ?_
  · exact absurd (Subsingleton.elim _ _) h
  · show (nth 80000 _ 0).val + 15000 = (nth 95000 _ 0).val
    rw [nth_val (k := 80000) (by omega), nth_val (k := 95000) (by omega)]
    omega
  · rw [flat_entry _ _ _ _ (show 20000 * c.val + k.val < 80000 by omega), bitcastToInt_apply, swap_entry]
    refine congrArg _ (shapeCast_apply b _ _ _ ?_)
    rw [Shape.rowMajor_val_two, Shape.rowMajor_val_three]
    show (0 * 20000 + k.val) * 4 + c.val = k.val * 4 + c.val
    omega

/-- The result's entry `(r, c)` is the float whose bits the flat output holds at `5000 c + r`. -/
theorem unpacked_word (o : Words 20000) (r : Fin 5000) (c : Fin 4) :
    unpacked (F := F) o (ix2 r c) = FloatOps.ofBits .f32 (o (nth 20000 (5000 * c.val + r.val))) := by
  have hc := c.isLt
  have hr := r.isLt
  unfold unpacked
  rw [bitcastToFloat_apply, swap_entry]
  refine congrArg _ (shapeCast_apply o _ _ _ ?_)
  rw [Shape.rowMajor_val_two, Shape.rowMajor_val_one, nth_val (k := 20000) (by omega)]
  show 5000 * c.val + r.val = c.val * 5000 + r.val
  omega

/-- THE RESULT: entry `(r, c)` is component `c` of the box whose number is in row `r` of the selection's last column. -/
theorem result_entry (s : Sel (F := F)) (b : Box (F := F)) (r : Fin 5000) (c : Fin 4) (k : Fin 20000)
    (hk : (s (ix2 r 2) : BitVec 32).toNat = k.val) :
    unpacked (F := F) (OUT (packed (F := F) s b)) (ix2 r c) = FloatOps.ofBits .f32 (BitOps.toBits (b (ix3 0 k c))) := by
  rw [unpacked_word, OUT_entry _ c.isLt r.isLt, packed_num, hk, packed_word]

/-- Numbers in range in the selection are in range in the packed input. -/
theorem packed_inRange (s : Sel (F := F)) (b : Box (F := F)) (h : ∀ r : Fin 5000, (s (ix2 r 2) : BitVec 32).toNat < 20000) :
    InRange (packed (F := F) s b) := fun r hr => by
  have e := packed_num (F := F) s b ⟨r, hr⟩
  rw [show 10000 + r = 10000 + (⟨r, hr⟩ : Fin 5000).val from rfl, e]
  exact h ⟨r, hr⟩

end Cert.Proof.Boxes
-- ==== Proof.Taken.lean ====
/-
  What the reference computes, entry by entry, when every index is in range; and what the precondition says.
-/
module

public import proofs.«01_k».proof.Proof.Gen.Reference.Run
public import proofs.«01_k».proof.Proof.Gen.Pre_in_range
public import Idealize.ShloMosaic.Lib.Pointwise.Index
public import Idealize.ShloMosaic.Lib.ReduceAll
public import Idealize.ShloMosaic.Lib.StableHlo.Predicate
public import Idealize.ShloMosaic.Lib.Pipeline.Value
public import Idealize.ShloMosaic.Lib.Pointwise.ElementwiseCore

@[expose] public section

noncomputable section

namespace Cert.Proof.Boxes

open Idealize.ShloMosaic

/-- A 32-bit word below twenty thousand reads the same signed as unsigned. -/
theorem word_signed {v : BitVec 32} (h : v.toNat < 20000) : v.toInt = v.toNat :=
  StableHlo.Predicate.toInt_eq_toNat_of_lt (by omega)

/-- A word that tests as at least zero and below twenty thousand, signed, is below twenty thousand. -/
theorem word_below {v : BitVec 32} (h : IntOp.andi (IntOp.cmpi .sge v 0#32) (IntOp.cmpi .slt v 20000#32) = 1#1) : v.toNat < 20000 := by
  obtain ⟨h0, h1⟩ := IntOp.andi_eq_one.1 h
  have h0 := IntOp.cmpi_sge.1 h0
  have h1 := IntOp.cmpi_slt.1 h1
  rw [show (0#32 : BitVec 32).toInt = 0 from by decide] at h0
  rw [show (20000#32 : BitVec 32).toInt = 20000 from by decide] at h1
  rw [BitVec.toInt_eq_toNat_cond] at h0 h1
  split at h0 <;> omega

/-- A word below twenty thousand passes the reference's test that it indexes a box. -/
theorem word_inside {v : BitVec 32} (h : v.toNat < 20000) : IntOp.andi (IntOp.cmpi .sge v 0#32) (IntOp.cmpi .sle v 19999#32) = 1#1 := by
  refine IntOp.andi_eq_one.2 ⟨IntOp.cmpi_sge.2 ?_, IntOp.cmpi_sle.2 ?_⟩
  · rw [word_signed h, show (0#32 : BitVec 32).toInt = 0 from by decide]; omega
  · rw [word_signed h, show (19999#32 : BitVec 32).toInt = 19999 from by decide]; omega

/-- A word below twenty thousand does not test as negative. -/
theorem word_not_negative {v : BitVec 32} (h : v.toNat < 20000) : ¬ IntOp.cmpi .slt v 0#32 = 1#1 := fun e => by
  have := IntOp.cmpi_slt.1 e
  rw [word_signed h, show (0#32 : BitVec 32).toInt = 0 from by decide] at this
  omega

/-- The third column of a table of three, as a vector, holds the table's third entry of each row. -/
theorem column_entry {α : Type} {n : ℕ} (s : (⟨2, ![n, 3]⟩ : Shape).Idx → α)
    (h : (⟨2, ![n, 3]⟩ : Shape).Slices ![0, 2] ⟨2, ![n, 1]⟩) (h' : (⟨2, ![n, 1]⟩ : Shape).ShapeCasts ⟨1, ![n]⟩) (r : Fin n) :
    shapeCast ⟨1, ![n]⟩ (extractStridedSlice ⟨2, ![n, 1]⟩ ![0, 2] s h) h' (ix1 r) = s (ix2 r 2) := by
  rw [shapeCast_apply (extractStridedSlice ⟨2, ![n, 1]⟩ ![0, 2] s h) h' (ix1 r) (ix2 r 0)
    (by rw [Shape.rowMajor_val_two, Shape.rowMajor_val_one]; show r.val * 1 + 0 = r.val; omega)]
  show s _ = s _
  congr 1
  funext a
  match a with
  | ⟨0, _⟩ => exact Fin.ext (by show 0 + r.val = r.val; omega)
  | ⟨1, _⟩ => rfl

/-- The precondition says of each row that its third entry is below twenty thousand. -/
theorem rows_inRange {F : FTy → Type} [FloatOps F] (s : IVec Cert.Pre_in_range.S5000x3 32) (b : FVec F Cert.Pre_in_range.S1x20000x4 .f32)
    (h : Cert.Pre_in_range.fn (F := F) s b = fun _ => 1#1) (r : Fin 5000) : (s (ix2 r 2) : BitVec 32).toNat < 20000 := by
  have e := congrFun h fun a => a.elim0
  dsimp only [Cert.Pre_in_range.fn] at e
  have : Subsingleton Cert.Pre_in_range.S_.Idx := ⟨fun _ _ => funext fun a => a.elim0⟩
  have e := Host.reduce_andi_all _ _ _ _ _ e (ix1 r)
  refine word_below (v := s (ix2 r 2)) ?_
  rw [← column_entry s Cert.Pre_in_range.Facts.slices_S5000x3_S5000x1_0_2 Cert.Pre_in_range.Facts.shapeCasts_S5000x1_S5000 r]
  exact e

open Cert.Reference Cert.Reference.Gen

variable {F : FTy → Type} [FloatOps F]

/-- The reference's index vector: the third column. -/
def numbers (s : IVec S5000x3 32) : IVec S5000 32 :=
  shapeCast S5000 (extractStridedSlice S5000x1 ![0, 2] s slices_S5000x3_S5000x1_0_2) shapeCasts_S5000x1_S5000

/-- The reference's start indices: the third column with negative entries counted from the end. -/
def starts (s : IVec S5000x3 32) : IVec S5000x1 32 :=
  broadcastInDim S5000x1 ![0] bcast_S5000_S5000x1_0
    (select (cmpi .slt (numbers s) (broadcastInDim S5000 ![] bcast_S_S5000 (constantI S_ 32 0#32)))
      (addi (numbers s) (broadcastInDim S5000 ![] bcast_S_S5000 (constantI S_ 32 20000#32))) (numbers s))

/-- The reference's test that each start index names a box. -/
def inside (s : IVec S5000x3 32) : IVec S5000 1 :=
  Host.reduce IntOp.andi
    (andi (cmpi .sge (starts s) (broadcastInDim S5000x1 ![] bcast_S_S5000x1 (constantI S_ 32 0#32)))
      (cmpi .sle (starts s) (broadcastInDim S5000x1 ![0, 1] bcast_S1x1_S5000x1_0_1 (broadcastInDim S1x1 ![1] bcast_S1_S1x1_1 (constantI S1 32 19999#32)))))
    (constantI S_ 1 1#1) reducesTo_S5000x1_S5000_d1 h_S_

/-- The reference's result as a function of its two arguments. -/
def taken (s : IVec S5000x3 32) (b : FVec F S1x20000x4 .f32) : FVec F S5000x4 .f32 :=
  select (broadcastInDim S5000x4 ![0] bcast_S5000_S5000x4_0 (inside s))
    (Host.gather gather_S20000x4_S5000x1_S5000x4_1_0_n_n_0_1_14 (shapeCast S20000x4 b shapeCasts_S1x20000x4_S20000x4) (starts s))
    (broadcastInDim S5000x4 ![] bcast_S_S5000x4 (constant S_ .f32 0x7FC00000#32))

/-- An in-range index is its own start index. -/
theorem starts_entry (s : IVec S5000x3 32) (r : Fin 5000) (h : (s (ix2 r 2) : BitVec 32).toNat < 20000) (k : Fin 1) :
    starts s (ix2 r k) = s (ix2 r 2) := by
  have e : numbers s (ix1 r) = s (ix2 r 2) := column_entry s _ _ r
  have hs : starts s (ix2 r k) = select (cmpi .slt (numbers s) (broadcastInDim S5000 ![] bcast_S_S5000 (constantI S_ 32 0#32)))
      (addi (numbers s) (broadcastInDim S5000 ![] bcast_S_S5000 (constantI S_ 32 20000#32))) (numbers s) (ix1 r) := by
    show select _ _ _ _ = select _ _ _ _
    congr 1
    funext a
    match a with
    | ⟨0, _⟩ => rfl
  rw [hs]
  show (if IntOp.cmpi .slt (numbers s (ix1 r)) 0#32 = 1#1 then _ else numbers s (ix1 r)) = _
  rw [e, if_neg (word_not_negative h)]

/-- When every index is in range, every start index names a box. -/
theorem inside_entry (s : IVec S5000x3 32) (h : ∀ r : Fin 5000, (s (ix2 r 2) : BitVec 32).toNat < 20000) (j : S5000.Idx) : inside s j = 1#1 := by
  refine Host.reduce_andi_one _ _ _ _ _ rfl fun i => ?_
  obtain ⟨r, k, rfl⟩ : ∃ (r : Fin 5000) (k : Fin 1), i = ix2 r k := ⟨i 0, i 1, eq_ix2 i⟩
  show IntOp.andi (IntOp.cmpi .sge (starts s (ix2 r k)) 0#32) (IntOp.cmpi .sle (starts s (ix2 r k)) 19999#32) = 1#1
  rw [starts_entry s r (h r) k]
  exact word_inside (h r)

/-- The reference's gather reads, at row `r` and column `c`, the table's column `c` in the row that start index `r` names, clamped into the table. -/
theorem gather_row {α : Type} (x : S20000x4.Idx → α) (idx : IVec S5000x1 32) (r : Fin 5000) (c : Fin 4) :
    Host.gather gather_S20000x4_S5000x1_S5000x4_1_0_n_n_0_1_14 x idx (ix2 r c)
      = x (ix2 ⟨min (idx (ix2 r 0) : BitVec 32).toInt.toNat 19999, by omega⟩ c) := by
  unfold Host.gather
  congr 1
  funext a
  refine Fin.ext ?_
  show gather_S20000x4_S5000x1_S5000x4_1_0_n_n_0_1_14.start (ix2 r c) idx a + gather_S20000x4_S5000x1_S5000x4_1_0_n_n_0_1_14.batchCoord (ix2 r c) a
    + gather_S20000x4_S5000x1_S5000x4_1_0_n_n_0_1_14.offCoord (ix2 r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S20000x4_S5000x1_S5000x4_1_0_n_n_0_1_14.startIndexMap from List.mem_singleton.mpr rfl)]
    have hsi : gather_S20000x4_S5000x1_S5000x4_1_0_n_n_0_1_14.siIdx (ix2 r c) ⟨List.idxOf (0 : Fin 2) gather_S20000x4_S5000x1_S5000x4_1_0_n_n_0_1_14.startIndexMap,
        List.idxOf_lt_length_iff.2 (List.mem_singleton.mpr rfl)⟩ = ix2 r 0 := by
      funext b; refine Fin.ext ?_
      match b with
      | ⟨0, _⟩ => rfl
      | ⟨1, _⟩ => rfl
    exact congrArg (fun i => min (idx i : BitVec 32).toInt.toNat 19999) hsi
  · unfold GatherDims.start
    rw [dif_neg (show ¬ (1 : Fin 2) ∈ gather_S20000x4_S5000x1_S5000x4_1_0_n_n_0_1_14.startIndexMap from
      (by decide : ¬ (1 : Fin 2) ∈ ([0] : List (Fin 2))))]
    show 0 + 0 + GatherDims.offCoord _ _ _ = c.val
    rw [Nat.zero_add]
    rfl

/-- When every index is in range, the reference's result at row `r` and column `c` is coordinate `c` of the box that row `r`'s third entry names. -/
theorem taken_entry (s : IVec S5000x3 32) (b : FVec F S1x20000x4 .f32) (h : ∀ r : Fin 5000, (s (ix2 r 2) : BitVec 32).toNat < 20000)
    (r : Fin 5000) (c : Fin 4) : taken s b (ix2 r c) = b (ix3 0 ⟨(s (ix2 r 2) : BitVec 32).toNat, h r⟩ c) := by
  have hin : broadcastInDim S5000x4 ![0] bcast_S5000_S5000x4_0 (inside s) (ix2 r c) = 1#1 := by
    unfold broadcastInDim
    exact inside_entry s h _
  unfold taken
  show Scalar.select (broadcastInDim S5000x4 ![0] bcast_S5000_S5000x4_0 (inside s) (ix2 r c)) (Host.gather _ _ _ _) _ = _
  rw [hin, gather_row]
  show shapeCast _ _ _ _ = _
  refine shapeCast_apply b _ _ _ ?_
  rw [Shape.rowMajor_val_two, Shape.rowMajor_val_three]
  show (0 * 20000 + (s (ix2 r 2) : BitVec 32).toNat) * 4 + c.val = min (starts s (ix2 r 0) : BitVec 32).toInt.toNat 19999 * 4 + c.val
  rw [starts_entry s r (h r) 0, word_signed (h r)]
  have := h r
  simp only [Int.toNat_natCast]
  omega

end Cert.Proof.Boxes

end
-- ==== Proof.Same.lean ====
/-
  The kernel's result and the reference's are the same array when every index is in range.
-/
module

public import proofs.«01_k».proof.Proof.Values
public import proofs.«01_k».proof.Proof.Taken

@[expose] public section

noncomputable section

namespace Cert.Proof.Boxes

open Idealize.ShloMosaic Idealize.SL.Sem

/-- An initial memory of the kernel, its floats as bits. -/
abbrev Mem : Type := (ℓ : Loc Cert.Kernel.nD Cert.Kernel.τ Cert.Kernel.sig) → Buf (Elt Bits) ℓ

/-- The kernel's first argument on a device: the selected indices. -/
abbrev selOf (m : Mem) (c : Dev Cert.Kernel.nD) : Sel (F := Bits) := m (c, a0')

/-- The kernel's second argument on a device: the boxes. -/
abbrev boxOf (m : Mem) (c : Dev Cert.Kernel.nD) : Box (F := Bits) := m (c, a1')

/-- The precondition bounds the third entry of every row of the selected indices. -/
theorem rows_of_pre {m : Mem} (hm : Cert.Pre_Kernel m) (c : Dev Cert.Kernel.nD) (r : Fin 5000) : (selOf m c (ix2 r 2) : BitVec 32).toNat < 20000 :=
  rows_inRange (F := Bits) (selOf m c) (boxOf m c) (hm c) r

/-- Under the precondition the box numbers in the packed input are in range. -/
theorem given_inRange {m : Mem} (hm : Cert.Pre_Kernel m) (c : Dev Cert.Kernel.nD) : InRange (given (F := Bits) m c) :=
  packed_inRange (F := Bits) _ _ (rows_of_pre hm c)

/-- THE EQUATION: under the precondition the kernel's result is what the reference takes from the same arguments. -/
theorem result_taken {m : Mem} (hm : Cert.Pre_Kernel m) (c : Dev Cert.Kernel.nD) :
    result (F := Bits) m c = taken (F := Bits) (selOf m c) (boxOf m c) := by
  funext j
  obtain ⟨r, k, rfl⟩ : ∃ (r : Fin 5000) (k : Fin 4), j = ix2 r k := ⟨j 0, j 1, eq_ix2 j⟩
  have h := rows_of_pre hm c
  exact (result_entry (F := Bits) (selOf m c) (boxOf m c) r k ⟨_, h r⟩ rfl).trans (taken_entry (F := Bits) (selOf m c) (boxOf m c) h r k).symm

/-- THE KERNEL ENDS QUIET: under the precondition it ends with its arguments unchanged, its result the reference's, and every counter at zero. -/
theorem kernel_run {m : Mem} (hm : Cert.Pre_Kernel m) (g : Dev Cert.Kernel.nD → PrngReg) :
    θ_run (Cert.Kernel.defs (F := Bits)) (Cert.Kernel.threads (F := Bits)) ⟨m, fun _ => 0, g⟩ (Ends (F := Bits) m) :=
  run_main (F := Bits) m g (given_inRange hm)

/-- The reference has no semaphore, so any two assignments to its counters agree. -/
theorem no_counter {α : Type} (a b : GSem Cert.Reference.nD Cert.Reference.τ Cert.Reference.sig → α) : a = b :=
  funext fun s => by
    have h : IsEmpty (SemLoc Cert.Reference.sig) := by
      refine ⟨fun sm => ?_⟩
      revert sm
      decide
    exact h.elim s.2

/-- THE REFERENCE'S RUN: it ends with its arguments unchanged and its result what it takes from them. -/
theorem reference_run (m : (ℓ : Loc Cert.Reference.nD Cert.Reference.τ Cert.Reference.sig) → Buf (Elt Bits) ℓ) (g : Dev Cert.Reference.nD → PrngReg) :
    θ_run (Cert.Reference.defs (F := Bits)) (onTc (τ := Cert.Reference.τ) (Cert.Reference.main (F := Bits))) ⟨m, fun _ => 0, g⟩ fun r =>
      ∀ c : Dev Cert.Reference.nD,
        r.2.mem ((c.tc : Thread Cert.Reference.nD Cert.Reference.τ).loc Cert.Reference.main_v3)
          = taken (F := Bits) (m ((c.tc : Thread Cert.Reference.nD Cert.Reference.τ).loc Cert.Reference.main_arg0))
              (m ((c.tc : Thread Cert.Reference.nD Cert.Reference.τ).loc Cert.Reference.main_arg1))
        ∧ r.2.mem ((c.tc : Thread Cert.Reference.nD Cert.Reference.τ).loc Cert.Reference.main_arg0)
          = m ((c.tc : Thread Cert.Reference.nD Cert.Reference.τ).loc Cert.Reference.main_arg0)
        ∧ r.2.mem ((c.tc : Thread Cert.Reference.nD Cert.Reference.τ).loc Cert.Reference.main_arg1)
          = m ((c.tc : Thread Cert.Reference.nD Cert.Reference.τ).loc Cert.Reference.main_arg1) :=
  Cert.Reference.Value.run (F := Bits) m g

end Cert.Proof.Boxes

end
-- ==== Proof.lean ====
/-
  The proof of the claims: the kernel's and the reference's runs, read as each claim asks.
-/
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Reference.Run
public import proofs.«01_k».proof.Proof.Gen.Pre_in_range
public import proofs.«01_k».proof.Proof.Same
public import Idealize.ShloMosaic.Adequacy
public import Idealize.ShloMosaic.Init

@[expose] public section

noncomputable section

namespace Cert.Proof

open Idealize.ShloMosaic Idealize.SL.Sem Cert.Proof.Boxes

/-- The kernel runs, leaves its arguments unchanged and every counter at zero. -/
theorem kernel_quiescent : Cert.quiescent_Kernel := fun _ g hm =>
  (θ_run _ _ _).mono (fun _ h => ⟨fun c => ⟨(h.1 c).1, (h.1 c).2.1⟩, h.2⟩) (kernel_run hm g)

/-- The reference runs, leaves its arguments unchanged and every counter at zero. -/
theorem reference_quiescent : Cert.quiescent_Reference := fun m g _ =>
  (θ_run _ _ _).mono (fun _ h => ⟨fun c => (h c).2, no_counter _ _⟩) (reference_run m g)

/-- The kernel and the reference, on equal arguments with every index in range, end with equal results. -/
theorem results_equal : Cert.bitexact_Kernel_Reference := fun m g m' g' hm ha =>
  ⟨fun c => result (F := Bits) m c,
    (θ_run _ _ _).mono (fun _ h c => ⟨(h.1 c).2.2, (h.1 c).1, (h.1 c).2.1⟩) (kernel_run hm g),
    (θ_run _ _ _).mono (fun _ h c => ⟨(h c).1.trans ((congrArg₂ (taken (F := Bits)) (ha c).1 (ha c).2).trans (result_taken hm c).symm), (h c).2⟩)
      (reference_run m' g')⟩

/-- Every claim, with the programs' side conditions. -/
theorem claim : Cert.Claim :=
  ⟨Cert.Kernel.Gen.facts, Cert.Reference.Gen.facts, Cert.Pre_in_range.Gen.facts,
    kernel_quiescent, reference_quiescent, fun m g _ => reference_quiescent m g trivial, results_equal⟩

end Cert.Proof

end
